-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S16x128 Cert.KernelIdeal.S8x128
  ∧ IdealRules.bf16_pair.SelectZeroStatement Cert.KernelIdeal.S8x128

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal (hKernelIdeal := hKernelIdeal) (hReferenceIdeal := hReferenceIdeal) (hPre_groups_in_range := hPre_groups_in_range)
-- ==== Pre_groups_in_range.lean ====
abbrev S8x1x16384 : Shape := ⟨3, ![8, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S8x1x16384 .bf16) (main_arg1 : IVec S8192x7168 8) (main_arg2 : FVec F S128x7168 .bf16) (main_arg3 : IVec S64x7168 8) (main_arg4 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg4 main_v0
  let main_c_0 : IVec S_ 32 := constantI S_ 32 128#32
  let main_v2 : IVec S16384 32 := broadcastInDim S16384 ![] bcast_S_S16384 main_c_0
  let main_v3 : IVec S16384 1 := cmpi .slt main_arg4 main_v2
  let main_v4 : IVec S16384 1 := andi main_v1 main_v3
  main_v4
-- ==== Kernel.lean ====
abbrev S8x1x16384 : Shape := ⟨3, ![8, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S_ : Shape := ⟨0, ![]⟩
abbrev S128x8x7x128 : Shape := ⟨4, ![128, 8, 7, 128]⟩
abbrev S128x8x8x128 : Shape := ⟨4, ![128, 8, 8, 128]⟩
abbrev S128x64x128 : Shape := ⟨3, ![128, 64, 128]⟩
abbrev S128x128x128 : Shape := ⟨3, ![128, 128, 128]⟩
abbrev S8x16384 : Shape := ⟨2, ![8, 16384]⟩
abbrev S8x7168 : Shape := ⟨2, ![8, 7168]⟩
abbrev S256x7168 : Shape := ⟨2, ![256, 7168]⟩
abbrev S456x128 : Shape := ⟨2, ![456, 128]⟩
abbrev S2x112x256 : Shape := ⟨3, ![2, 112, 256]⟩
abbrev S8x128 : Shape := ⟨2, ![8, 128]⟩
abbrev S32x128 : Shape := ⟨2, ![32, 128]⟩
abbrev S16x128 : Shape := ⟨2, ![16, 128]⟩
abbrev S64x128 : Shape := ⟨2, ![64, 128]⟩
abbrev S1 : Shape := ⟨1, ![1]⟩
abbrev S1x64x128 : Shape := ⟨3, ![1, 64, 128]⟩
abbrev S8x128x1 : Shape := ⟨3, ![8, 128, 1]⟩
abbrev S112x128 : Shape := ⟨2, ![112, 128]⟩
abbrev S112x256 : Shape := ⟨2, ![112, 256]⟩
abbrev S256x128 : Shape := ⟨2, ![256, 128]⟩
abbrev S256x256 : Shape := ⟨2, ![256, 256]⟩
abbrev S1x112x256 : Shape := ⟨3, ![1, 112, 256]⟩

abbrev nBuf : Space → Nat
  | .hbm => 27
  | .vmem => 7
  | .smem => 1
  | _ => 0

abbrev bufTy : (tb : Table) → Fin (tcTables nBuf tb) → BufTy
  | .hbm, ⟨0, _⟩ => ⟨S8x1x16384, .bf16⟩
  | .hbm, ⟨1, _⟩ => ⟨S8192x7168, .i8⟩
  | .hbm, ⟨2, _⟩ => ⟨S128x7168, .bf16⟩
  | .hbm, ⟨3, _⟩ => ⟨S64x7168, .i8⟩
  | .hbm, ⟨4, _⟩ => ⟨S64x7168, .i32⟩
  | .hbm, ⟨5, _⟩ => ⟨S_, .i32⟩
  | .hbm, ⟨6, _⟩ => ⟨S64x7168, .i32⟩
  | .hbm, ⟨7, _⟩ => ⟨S64x7168, .i32⟩
  | .hbm, ⟨8, _⟩ => ⟨S64x7168, .i32⟩
  | .hbm, ⟨9, _⟩ => ⟨S_, .i32⟩
  | .hbm, ⟨10, _⟩ => ⟨S64x7168, .i32⟩
  | .hbm, ⟨11, _⟩ => ⟨S64x7168, .i32⟩
  | .hbm, ⟨12, _⟩ => ⟨S128x7168, .i32⟩
  | .hbm, ⟨13, _⟩ => ⟨S128x7168, .bf16⟩
  | .hbm, ⟨14, _⟩ => ⟨S128x8x7x128, .bf16⟩
  | .hbm, ⟨15, _⟩ => ⟨S_, .i32⟩
  | .hbm, ⟨16, _⟩ => ⟨S_, .bf16⟩
  | .hbm, ⟨17, _⟩ => ⟨S128x8x8x128, .bf16⟩
  | .hbm, ⟨18, _⟩ => ⟨S128x64x128, .bf16⟩
  | .hbm, ⟨19, _⟩ => ⟨S128x8x7x128, .bf16⟩
  | .hbm, ⟨20, _⟩ => ⟨S_, .i32⟩
  | .hbm, ⟨21, _⟩ => ⟨S_, .bf16⟩
  | .hbm, ⟨22, _⟩ => ⟨S128x8x8x128, .bf16⟩
  | .hbm, ⟨23, _⟩ => ⟨S128x64x128, .bf16⟩
  | .hbm, ⟨24, _⟩ => ⟨S128x128x128, .bf16⟩
  | .hbm, ⟨25, _⟩ => ⟨S8x16384, .bf16⟩
  | .hbm, ⟨26, _⟩ => ⟨S8x7168, .bf16⟩
  | .local _ .vmem, ⟨0, _⟩ => ⟨S256x7168, .i8⟩
  | .local _ .vmem, ⟨1, _⟩ => ⟨S256x7168, .i8⟩
  | .local _ .vmem, ⟨2, _⟩ => ⟨S8x16384, .bf16⟩
  | .local _ .vmem, ⟨3, _⟩ => ⟨S128x128x128, .bf16⟩
  | .local _ .vmem, ⟨4, _⟩ => ⟨S8x7168, .bf16⟩
  | .local _ .vmem, ⟨5, _⟩ => ⟨S456x128, .i32⟩
  | .local _ .vmem, ⟨6, _⟩ => ⟨S2x112x256, .f32⟩
  | .local _ .smem, ⟨0, _⟩ => ⟨S16384, .i32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [BitOps F]

abbrev grid0 : Pipeline.Grid := ⟨1, ![32], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_50 : BitVec 32 := 0#32
  let c8_i32_51 : BitVec 32 := 8#32
  let v159 : BitVec 32 := Scalar.addi c0_i32_50 c8_i32_51
  let c1_i32_52 : BitVec 32 := 1#32
  ⟨c0_i32_50, v159, c1_i32_52⟩
def k0_mult1 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32 : BitVec 32 := 32#32
  let v163 : BitVec 32 := Scalar.muli arg8 c32_i32
  v163
def k0_off1 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32 : BitVec 32 := 32#32
  let v163 : BitVec 32 := Scalar.muli arg8 c32_i32
  let v164 : BitVec 32 := v163
  let v165 : Index := Scalar.indexCast v164
  let c0 : Index := 0#32
  ![v165.toNat, 0]
def k0_mult2 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_57 : BitVec 32 := 32#32
  let v171 : BitVec 32 := Scalar.muli arg8 c32_i32_57
  v171
def k0_off2 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_57 : BitVec 32 := 32#32
  let v171 : BitVec 32 := Scalar.muli arg8 c32_i32_57
  let v172 : BitVec 32 := v171
  let v173 : Index := Scalar.indexCast v172
  let c128 : Index := 128#32
  ![v173.toNat, 128]
def k0_mult3 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_59 : BitVec 32 := 32#32
  let v179 : BitVec 32 := Scalar.muli arg8 c32_i32_59
  v179
def k0_off3 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_59 : BitVec 32 := 32#32
  let v179 : BitVec 32 := Scalar.muli arg8 c32_i32_59
  let v180 : BitVec 32 := v179
  let v181 : Index := Scalar.indexCast v180
  let c256 : Index := 256#32
  ![v181.toNat, 256]
def k0_mult4 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_61 : BitVec 32 := 32#32
  let v187 : BitVec 32 := Scalar.muli arg8 c32_i32_61
  v187
def k0_off4 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_61 : BitVec 32 := 32#32
  let v187 : BitVec 32 := Scalar.muli arg8 c32_i32_61
  let v188 : BitVec 32 := v187
  let v189 : Index := Scalar.indexCast v188
  let c384 : Index := 384#32
  ![v189.toNat, 384]
def k0_mult5 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_63 : BitVec 32 := 32#32
  let v195 : BitVec 32 := Scalar.muli arg8 c32_i32_63
  v195
def k0_off5 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_63 : BitVec 32 := 32#32
  let v195 : BitVec 32 := Scalar.muli arg8 c32_i32_63
  let v196 : BitVec 32 := v195
  let v197 : Index := Scalar.indexCast v196
  let c512 : Index := 512#32
  ![v197.toNat, 512]
def k0_mult6 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_65 : BitVec 32 := 32#32
  let v203 : BitVec 32 := Scalar.muli arg8 c32_i32_65
  v203
def k0_off6 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_65 : BitVec 32 := 32#32
  let v203 : BitVec 32 := Scalar.muli arg8 c32_i32_65
  let v204 : BitVec 32 := v203
  let v205 : Index := Scalar.indexCast v204
  let c640 : Index := 640#32
  ![v205.toNat, 640]
def k0_mult7 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_67 : BitVec 32 := 32#32
  let v211 : BitVec 32 := Scalar.muli arg8 c32_i32_67
  v211
def k0_off7 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_67 : BitVec 32 := 32#32
  let v211 : BitVec 32 := Scalar.muli arg8 c32_i32_67
  let v212 : BitVec 32 := v211
  let v213 : Index := Scalar.indexCast v212
  let c768 : Index := 768#32
  ![v213.toNat, 768]
def k0_mult8 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_69 : BitVec 32 := 32#32
  let v219 : BitVec 32 := Scalar.muli arg8 c32_i32_69
  v219
def k0_off8 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_69 : BitVec 32 := 32#32
  let v219 : BitVec 32 := Scalar.muli arg8 c32_i32_69
  let v220 : BitVec 32 := v219
  let v221 : Index := Scalar.indexCast v220
  let c896 : Index := 896#32
  ![v221.toNat, 896]
def k0_mult9 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_71 : BitVec 32 := 32#32
  let v227 : BitVec 32 := Scalar.muli arg8 c32_i32_71
  v227
def k0_off9 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_71 : BitVec 32 := 32#32
  let v227 : BitVec 32 := Scalar.muli arg8 c32_i32_71
  let v228 : BitVec 32 := v227
  let v229 : Index := Scalar.indexCast v228
  let c1024 : Index := 1024#32
  ![v229.toNat, 1024]
def k0_mult10 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_73 : BitVec 32 := 32#32
  let v235 : BitVec 32 := Scalar.muli arg8 c32_i32_73
  v235
def k0_off10 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_73 : BitVec 32 := 32#32
  let v235 : BitVec 32 := Scalar.muli arg8 c32_i32_73
  let v236 : BitVec 32 := v235
  let v237 : Index := Scalar.indexCast v236
  let c1152 : Index := 1152#32
  ![v237.toNat, 1152]
def k0_mult11 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_75 : BitVec 32 := 32#32
  let v243 : BitVec 32 := Scalar.muli arg8 c32_i32_75
  v243
def k0_off11 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_75 : BitVec 32 := 32#32
  let v243 : BitVec 32 := Scalar.muli arg8 c32_i32_75
  let v244 : BitVec 32 := v243
  let v245 : Index := Scalar.indexCast v244
  let c1280 : Index := 1280#32
  ![v245.toNat, 1280]
def k0_mult12 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_77 : BitVec 32 := 32#32
  let v251 : BitVec 32 := Scalar.muli arg8 c32_i32_77
  v251
def k0_off12 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_77 : BitVec 32 := 32#32
  let v251 : BitVec 32 := Scalar.muli arg8 c32_i32_77
  let v252 : BitVec 32 := v251
  let v253 : Index := Scalar.indexCast v252
  let c1408 : Index := 1408#32
  ![v253.toNat, 1408]
def k0_mult13 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_79 : BitVec 32 := 32#32
  let v259 : BitVec 32 := Scalar.muli arg8 c32_i32_79
  v259
def k0_off13 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_79 : BitVec 32 := 32#32
  let v259 : BitVec 32 := Scalar.muli arg8 c32_i32_79
  let v260 : BitVec 32 := v259
  let v261 : Index := Scalar.indexCast v260
  let c1536 : Index := 1536#32
  ![v261.toNat, 1536]
def k0_mult14 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_81 : BitVec 32 := 32#32
  let v267 : BitVec 32 := Scalar.muli arg8 c32_i32_81
  v267
def k0_off14 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_81 : BitVec 32 := 32#32
  let v267 : BitVec 32 := Scalar.muli arg8 c32_i32_81
  let v268 : BitVec 32 := v267
  let v269 : Index := Scalar.indexCast v268
  let c1664 : Index := 1664#32
  ![v269.toNat, 1664]
def k0_mult15 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_83 : BitVec 32 := 32#32
  let v275 : BitVec 32 := Scalar.muli arg8 c32_i32_83
  v275
def k0_off15 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_83 : BitVec 32 := 32#32
  let v275 : BitVec 32 := Scalar.muli arg8 c32_i32_83
  let v276 : BitVec 32 := v275
  let v277 : Index := Scalar.indexCast v276
  let c1792 : Index := 1792#32
  ![v277.toNat, 1792]
def k0_mult16 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_85 : BitVec 32 := 32#32
  let v283 : BitVec 32 := Scalar.muli arg8 c32_i32_85
  v283
def k0_off16 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_85 : BitVec 32 := 32#32
  let v283 : BitVec 32 := Scalar.muli arg8 c32_i32_85
  let v284 : BitVec 32 := v283
  let v285 : Index := Scalar.indexCast v284
  let c1920 : Index := 1920#32
  ![v285.toNat, 1920]
def k0_mult17 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_87 : BitVec 32 := 32#32
  let v291 : BitVec 32 := Scalar.muli arg8 c32_i32_87
  v291
def k0_off17 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_87 : BitVec 32 := 32#32
  let v291 : BitVec 32 := Scalar.muli arg8 c32_i32_87
  let v292 : BitVec 32 := v291
  let v293 : Index := Scalar.indexCast v292
  let c2048 : Index := 2048#32
  ![v293.toNat, 2048]
def k0_mult18 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_89 : BitVec 32 := 32#32
  let v299 : BitVec 32 := Scalar.muli arg8 c32_i32_89
  v299
def k0_off18 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_89 : BitVec 32 := 32#32
  let v299 : BitVec 32 := Scalar.muli arg8 c32_i32_89
  let v300 : BitVec 32 := v299
  let v301 : Index := Scalar.indexCast v300
  let c2176 : Index := 2176#32
  ![v301.toNat, 2176]
def k0_mult19 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_91 : BitVec 32 := 32#32
  let v307 : BitVec 32 := Scalar.muli arg8 c32_i32_91
  v307
def k0_off19 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_91 : BitVec 32 := 32#32
  let v307 : BitVec 32 := Scalar.muli arg8 c32_i32_91
  let v308 : BitVec 32 := v307
  let v309 : Index := Scalar.indexCast v308
  let c2304 : Index := 2304#32
  ![v309.toNat, 2304]
def k0_mult20 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_93 : BitVec 32 := 32#32
  let v315 : BitVec 32 := Scalar.muli arg8 c32_i32_93
  v315
def k0_off20 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_93 : BitVec 32 := 32#32
  let v315 : BitVec 32 := Scalar.muli arg8 c32_i32_93
  let v316 : BitVec 32 := v315
  let v317 : Index := Scalar.indexCast v316
  let c2432 : Index := 2432#32
  ![v317.toNat, 2432]
def k0_mult21 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_95 : BitVec 32 := 32#32
  let v323 : BitVec 32 := Scalar.muli arg8 c32_i32_95
  v323
def k0_off21 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_95 : BitVec 32 := 32#32
  let v323 : BitVec 32 := Scalar.muli arg8 c32_i32_95
  let v324 : BitVec 32 := v323
  let v325 : Index := Scalar.indexCast v324
  let c2560 : Index := 2560#32
  ![v325.toNat, 2560]
def k0_mult22 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_97 : BitVec 32 := 32#32
  let v331 : BitVec 32 := Scalar.muli arg8 c32_i32_97
  v331
def k0_off22 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_97 : BitVec 32 := 32#32
  let v331 : BitVec 32 := Scalar.muli arg8 c32_i32_97
  let v332 : BitVec 32 := v331
  let v333 : Index := Scalar.indexCast v332
  let c2688 : Index := 2688#32
  ![v333.toNat, 2688]
def k0_mult23 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_99 : BitVec 32 := 32#32
  let v339 : BitVec 32 := Scalar.muli arg8 c32_i32_99
  v339
def k0_off23 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_99 : BitVec 32 := 32#32
  let v339 : BitVec 32 := Scalar.muli arg8 c32_i32_99
  let v340 : BitVec 32 := v339
  let v341 : Index := Scalar.indexCast v340
  let c2816 : Index := 2816#32
  ![v341.toNat, 2816]
def k0_mult24 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_101 : BitVec 32 := 32#32
  let v347 : BitVec 32 := Scalar.muli arg8 c32_i32_101
  v347
def k0_off24 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_101 : BitVec 32 := 32#32
  let v347 : BitVec 32 := Scalar.muli arg8 c32_i32_101
  let v348 : BitVec 32 := v347
  let v349 : Index := Scalar.indexCast v348
  let c2944 : Index := 2944#32
  ![v349.toNat, 2944]
def k0_mult25 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_103 : BitVec 32 := 32#32
  let v355 : BitVec 32 := Scalar.muli arg8 c32_i32_103
  v355
def k0_off25 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_103 : BitVec 32 := 32#32
  let v355 : BitVec 32 := Scalar.muli arg8 c32_i32_103
  let v356 : BitVec 32 := v355
  let v357 : Index := Scalar.indexCast v356
  let c3072 : Index := 3072#32
  ![v357.toNat, 3072]
def k0_mult26 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_105 : BitVec 32 := 32#32
  let v363 : BitVec 32 := Scalar.muli arg8 c32_i32_105
  v363
def k0_off26 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_105 : BitVec 32 := 32#32
  let v363 : BitVec 32 := Scalar.muli arg8 c32_i32_105
  let v364 : BitVec 32 := v363
  let v365 : Index := Scalar.indexCast v364
  let c3200 : Index := 3200#32
  ![v365.toNat, 3200]
def k0_mult27 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_107 : BitVec 32 := 32#32
  let v371 : BitVec 32 := Scalar.muli arg8 c32_i32_107
  v371
def k0_off27 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_107 : BitVec 32 := 32#32
  let v371 : BitVec 32 := Scalar.muli arg8 c32_i32_107
  let v372 : BitVec 32 := v371
  let v373 : Index := Scalar.indexCast v372
  let c3328 : Index := 3328#32
  ![v373.toNat, 3328]
def k0_mult28 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_109 : BitVec 32 := 32#32
  let v379 : BitVec 32 := Scalar.muli arg8 c32_i32_109
  v379
def k0_off28 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_109 : BitVec 32 := 32#32
  let v379 : BitVec 32 := Scalar.muli arg8 c32_i32_109
  let v380 : BitVec 32 := v379
  let v381 : Index := Scalar.indexCast v380
  let c3456 : Index := 3456#32
  ![v381.toNat, 3456]
def k0_mult29 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_111 : BitVec 32 := 32#32
  let v387 : BitVec 32 := Scalar.muli arg8 c32_i32_111
  v387
def k0_off29 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_111 : BitVec 32 := 32#32
  let v387 : BitVec 32 := Scalar.muli arg8 c32_i32_111
  let v388 : BitVec 32 := v387
  let v389 : Index := Scalar.indexCast v388
  let c3584 : Index := 3584#32
  ![v389.toNat, 3584]
def k0_mult30 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_113 : BitVec 32 := 32#32
  let v395 : BitVec 32 := Scalar.muli arg8 c32_i32_113
  v395
def k0_off30 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_113 : BitVec 32 := 32#32
  let v395 : BitVec 32 := Scalar.muli arg8 c32_i32_113
  let v396 : BitVec 32 := v395
  let v397 : Index := Scalar.indexCast v396
  let c3712 : Index := 3712#32
  ![v397.toNat, 3712]
def k0_mult31 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_115 : BitVec 32 := 32#32
  let v403 : BitVec 32 := Scalar.muli arg8 c32_i32_115
  v403
def k0_off31 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_115 : BitVec 32 := 32#32
  let v403 : BitVec 32 := Scalar.muli arg8 c32_i32_115
  let v404 : BitVec 32 := v403
  let v405 : Index := Scalar.indexCast v404
  let c3840 : Index := 3840#32
  ![v405.toNat, 3840]
def k0_mult32 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_117 : BitVec 32 := 32#32
  let v411 : BitVec 32 := Scalar.muli arg8 c32_i32_117
  v411
def k0_off32 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_117 : BitVec 32 := 32#32
  let v411 : BitVec 32 := Scalar.muli arg8 c32_i32_117
  let v412 : BitVec 32 := v411
  let v413 : Index := Scalar.indexCast v412
  let c3968 : Index := 3968#32
  ![v413.toNat, 3968]
def k0_mult33 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_119 : BitVec 32 := 32#32
  let v419 : BitVec 32 := Scalar.muli arg8 c32_i32_119
  v419
def k0_off33 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_119 : BitVec 32 := 32#32
  let v419 : BitVec 32 := Scalar.muli arg8 c32_i32_119
  let v420 : BitVec 32 := v419
  let v421 : Index := Scalar.indexCast v420
  let c4096 : Index := 4096#32
  ![v421.toNat, 4096]
def k0_mult34 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_121 : BitVec 32 := 32#32
  let v427 : BitVec 32 := Scalar.muli arg8 c32_i32_121
  v427
def k0_off34 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_121 : BitVec 32 := 32#32
  let v427 : BitVec 32 := Scalar.muli arg8 c32_i32_121
  let v428 : BitVec 32 := v427
  let v429 : Index := Scalar.indexCast v428
  let c4224 : Index := 4224#32
  ![v429.toNat, 4224]
def k0_mult35 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_123 : BitVec 32 := 32#32
  let v435 : BitVec 32 := Scalar.muli arg8 c32_i32_123
  v435
def k0_off35 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_123 : BitVec 32 := 32#32
  let v435 : BitVec 32 := Scalar.muli arg8 c32_i32_123
  let v436 : BitVec 32 := v435
  let v437 : Index := Scalar.indexCast v436
  let c4352 : Index := 4352#32
  ![v437.toNat, 4352]
def k0_mult36 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_125 : BitVec 32 := 32#32
  let v443 : BitVec 32 := Scalar.muli arg8 c32_i32_125
  v443
def k0_off36 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_125 : BitVec 32 := 32#32
  let v443 : BitVec 32 := Scalar.muli arg8 c32_i32_125
  let v444 : BitVec 32 := v443
  let v445 : Index := Scalar.indexCast v444
  let c4480 : Index := 4480#32
  ![v445.toNat, 4480]
def k0_mult37 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_127 : BitVec 32 := 32#32
  let v451 : BitVec 32 := Scalar.muli arg8 c32_i32_127
  v451
def k0_off37 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_127 : BitVec 32 := 32#32
  let v451 : BitVec 32 := Scalar.muli arg8 c32_i32_127
  let v452 : BitVec 32 := v451
  let v453 : Index := Scalar.indexCast v452
  let c4608 : Index := 4608#32
  ![v453.toNat, 4608]
def k0_mult38 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_129 : BitVec 32 := 32#32
  let v459 : BitVec 32 := Scalar.muli arg8 c32_i32_129
  v459
def k0_off38 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_129 : BitVec 32 := 32#32
  let v459 : BitVec 32 := Scalar.muli arg8 c32_i32_129
  let v460 : BitVec 32 := v459
  let v461 : Index := Scalar.indexCast v460
  let c4736 : Index := 4736#32
  ![v461.toNat, 4736]
def k0_mult39 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_131 : BitVec 32 := 32#32
  let v467 : BitVec 32 := Scalar.muli arg8 c32_i32_131
  v467
def k0_off39 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_131 : BitVec 32 := 32#32
  let v467 : BitVec 32 := Scalar.muli arg8 c32_i32_131
  let v468 : BitVec 32 := v467
  let v469 : Index := Scalar.indexCast v468
  let c4864 : Index := 4864#32
  ![v469.toNat, 4864]
def k0_mult40 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_133 : BitVec 32 := 32#32
  let v475 : BitVec 32 := Scalar.muli arg8 c32_i32_133
  v475
def k0_off40 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_133 : BitVec 32 := 32#32
  let v475 : BitVec 32 := Scalar.muli arg8 c32_i32_133
  let v476 : BitVec 32 := v475
  let v477 : Index := Scalar.indexCast v476
  let c4992 : Index := 4992#32
  ![v477.toNat, 4992]
def k0_mult41 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_135 : BitVec 32 := 32#32
  let v483 : BitVec 32 := Scalar.muli arg8 c32_i32_135
  v483
def k0_off41 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_135 : BitVec 32 := 32#32
  let v483 : BitVec 32 := Scalar.muli arg8 c32_i32_135
  let v484 : BitVec 32 := v483
  let v485 : Index := Scalar.indexCast v484
  let c5120 : Index := 5120#32
  ![v485.toNat, 5120]
def k0_mult42 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_137 : BitVec 32 := 32#32
  let v491 : BitVec 32 := Scalar.muli arg8 c32_i32_137
  v491
def k0_off42 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_137 : BitVec 32 := 32#32
  let v491 : BitVec 32 := Scalar.muli arg8 c32_i32_137
  let v492 : BitVec 32 := v491
  let v493 : Index := Scalar.indexCast v492
  let c5248 : Index := 5248#32
  ![v493.toNat, 5248]
def k0_mult43 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_139 : BitVec 32 := 32#32
  let v499 : BitVec 32 := Scalar.muli arg8 c32_i32_139
  v499
def k0_off43 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_139 : BitVec 32 := 32#32
  let v499 : BitVec 32 := Scalar.muli arg8 c32_i32_139
  let v500 : BitVec 32 := v499
  let v501 : Index := Scalar.indexCast v500
  let c5376 : Index := 5376#32
  ![v501.toNat, 5376]
def k0_mult44 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_141 : BitVec 32 := 32#32
  let v507 : BitVec 32 := Scalar.muli arg8 c32_i32_141
  v507
def k0_off44 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_141 : BitVec 32 := 32#32
  let v507 : BitVec 32 := Scalar.muli arg8 c32_i32_141
  let v508 : BitVec 32 := v507
  let v509 : Index := Scalar.indexCast v508
  let c5504 : Index := 5504#32
  ![v509.toNat, 5504]
def k0_mult45 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_143 : BitVec 32 := 32#32
  let v515 : BitVec 32 := Scalar.muli arg8 c32_i32_143
  v515
def k0_off45 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_143 : BitVec 32 := 32#32
  let v515 : BitVec 32 := Scalar.muli arg8 c32_i32_143
  let v516 : BitVec 32 := v515
  let v517 : Index := Scalar.indexCast v516
  let c5632 : Index := 5632#32
  ![v517.toNat, 5632]
def k0_mult46 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_145 : BitVec 32 := 32#32
  let v523 : BitVec 32 := Scalar.muli arg8 c32_i32_145
  v523
def k0_off46 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_145 : BitVec 32 := 32#32
  let v523 : BitVec 32 := Scalar.muli arg8 c32_i32_145
  let v524 : BitVec 32 := v523
  let v525 : Index := Scalar.indexCast v524
  let c5760 : Index := 5760#32
  ![v525.toNat, 5760]
def k0_mult47 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_147 : BitVec 32 := 32#32
  let v531 : BitVec 32 := Scalar.muli arg8 c32_i32_147
  v531
def k0_off47 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_147 : BitVec 32 := 32#32
  let v531 : BitVec 32 := Scalar.muli arg8 c32_i32_147
  let v532 : BitVec 32 := v531
  let v533 : Index := Scalar.indexCast v532
  let c5888 : Index := 5888#32
  ![v533.toNat, 5888]
def k0_mult48 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_149 : BitVec 32 := 32#32
  let v539 : BitVec 32 := Scalar.muli arg8 c32_i32_149
  v539
def k0_off48 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_149 : BitVec 32 := 32#32
  let v539 : BitVec 32 := Scalar.muli arg8 c32_i32_149
  let v540 : BitVec 32 := v539
  let v541 : Index := Scalar.indexCast v540
  let c6016 : Index := 6016#32
  ![v541.toNat, 6016]
def k0_mult49 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_151 : BitVec 32 := 32#32
  let v547 : BitVec 32 := Scalar.muli arg8 c32_i32_151
  v547
def k0_off49 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_151 : BitVec 32 := 32#32
  let v547 : BitVec 32 := Scalar.muli arg8 c32_i32_151
  let v548 : BitVec 32 := v547
  let v549 : Index := Scalar.indexCast v548
  let c6144 : Index := 6144#32
  ![v549.toNat, 6144]
def k0_mult50 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_153 : BitVec 32 := 32#32
  let v555 : BitVec 32 := Scalar.muli arg8 c32_i32_153
  v555
def k0_off50 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_153 : BitVec 32 := 32#32
  let v555 : BitVec 32 := Scalar.muli arg8 c32_i32_153
  let v556 : BitVec 32 := v555
  let v557 : Index := Scalar.indexCast v556
  let c6272 : Index := 6272#32
  ![v557.toNat, 6272]
def k0_mult51 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_155 : BitVec 32 := 32#32
  let v563 : BitVec 32 := Scalar.muli arg8 c32_i32_155
  v563
def k0_off51 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_155 : BitVec 32 := 32#32
  let v563 : BitVec 32 := Scalar.muli arg8 c32_i32_155
  let v564 : BitVec 32 := v563
  let v565 : Index := Scalar.indexCast v564
  let c6400 : Index := 6400#32
  ![v565.toNat, 6400]
def k0_mult52 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_157 : BitVec 32 := 32#32
  let v571 : BitVec 32 := Scalar.muli arg8 c32_i32_157
  v571
def k0_off52 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_157 : BitVec 32 := 32#32
  let v571 : BitVec 32 := Scalar.muli arg8 c32_i32_157
  let v572 : BitVec 32 := v571
  let v573 : Index := Scalar.indexCast v572
  let c6528 : Index := 6528#32
  ![v573.toNat, 6528]
def k0_mult53 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_159 : BitVec 32 := 32#32
  let v579 : BitVec 32 := Scalar.muli arg8 c32_i32_159
  v579
def k0_off53 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_159 : BitVec 32 := 32#32
  let v579 : BitVec 32 := Scalar.muli arg8 c32_i32_159
  let v580 : BitVec 32 := v579
  let v581 : Index := Scalar.indexCast v580
  let c6656 : Index := 6656#32
  ![v581.toNat, 6656]
def k0_mult54 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_161 : BitVec 32 := 32#32
  let v587 : BitVec 32 := Scalar.muli arg8 c32_i32_161
  v587
def k0_off54 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_161 : BitVec 32 := 32#32
  let v587 : BitVec 32 := Scalar.muli arg8 c32_i32_161
  let v588 : BitVec 32 := v587
  let v589 : Index := Scalar.indexCast v588
  let c6784 : Index := 6784#32
  ![v589.toNat, 6784]
def k0_mult55 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_163 : BitVec 32 := 32#32
  let v595 : BitVec 32 := Scalar.muli arg8 c32_i32_163
  v595
def k0_off55 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_163 : BitVec 32 := 32#32
  let v595 : BitVec 32 := Scalar.muli arg8 c32_i32_163
  let v596 : BitVec 32 := v595
  let v597 : Index := Scalar.indexCast v596
  let c6912 : Index := 6912#32
  ![v597.toNat, 6912]
def k0_mult56 (k0_t1 : Fin k0_t1_loop.trips) : BitVec 32 :=
  let c0_i32_50 : BitVec 32 := 0#32
  let c1_i32_52 : BitVec 32 := 1#32
  let arg8 : BitVec 32 := Scf.iv c0_i32_50 c1_i32_52 k0_t1
  let c32_i32_165 : BitVec 32 := 32#32
  let v603 : BitVec 32 := Scalar.muli arg8 c32_i32_165
  v603
def k0_off56 (k0_t1 : Fin k0_t1_loop.trips) : Fin 2 → Nat :=
  let c0_i32_50 : BitVec 32 := 0#32
  let c1_i32_52 : BitVec 32 := 1#32
  let arg8 : BitVec 32 := Scf.iv c0_i32_50 c1_i32_52 k0_t1
  let c32_i32_165 : BitVec 32 := 32#32
  let v603 : BitVec 32 := Scalar.muli arg8 c32_i32_165
  let v604 : BitVec 32 := v603
  let v605 : Index := Scalar.indexCast v604
  let c7040 : Index := 7040#32
  ![v605.toNat, 7040]
def k0_mult57 (i : grid0.Coords) (k0_t1 : Fin k0_t1_loop.trips) : BitVec 32 :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_168 : BitVec 32 := 0#32
  let v615 : BitVec 1 := Scalar.cmpi .sgt v613 c0_i32_168
  let v616 : BitVec 32 := Scalar.extui v615
  let c0_i32_169 : BitVec 32 := 0#32
  let v617 : BitVec 1 := Scalar.cmpi .slt v613 c0_i32_169
  let v618 : BitVec 32 := Scalar.extui v617
  let v619 : BitVec 32 := Scalar.subi v616 v618
  let c128_i32 : BitVec 32 := 128#32
  let c0_i32_170 : BitVec 32 := 0#32
  let v620 : BitVec 1 := Scalar.cmpi .sgt c128_i32 c0_i32_170
  let v621 : BitVec 32 := Scalar.extui v620
  let c0_i32_171 : BitVec 32 := 0#32
  let v622 : BitVec 1 := Scalar.cmpi .slt c128_i32 c0_i32_171
  let v623 : BitVec 32 := Scalar.extui v622
  let v624 : BitVec 32 := Scalar.subi v621 v623
  let v625 : BitVec 1 := Scalar.cmpi .ne v619 v624
  let v626 : BitVec 32 := Scalar.remsi v613 c128_i32
  let c0_i32_172 : BitVec 32 := 0#32
  let v627 : BitVec 1 := Scalar.cmpi .ne v626 c0_i32_172
  let v628 : BitVec 1 := Scalar.andi v625 v627
  let v614 : BitVec 32 := Scalar.divsi v613 c128_i32
  let c1_i32_173 : BitVec 32 := 1#32
  let v629 : BitVec 32 := Scalar.subi v614 c1_i32_173
  let v630 : BitVec 32 := Scalar.select v628 v629 v614
  let c128_i32_174 : BitVec 32 := 128#32
  let v631 : BitVec 32 := Scalar.muli v630 c128_i32_174
  v631
def k0_off57 (i : grid0.Coords) (k0_t1 : Fin k0_t1_loop.trips) : Fin 2 → Nat :=
  let c0_175 : Index := 0#32
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_168 : BitVec 32 := 0#32
  let v615 : BitVec 1 := Scalar.cmpi .sgt v613 c0_i32_168
  let v616 : BitVec 32 := Scalar.extui v615
  let c0_i32_169 : BitVec 32 := 0#32
  let v617 : BitVec 1 := Scalar.cmpi .slt v613 c0_i32_169
  let v618 : BitVec 32 := Scalar.extui v617
  let v619 : BitVec 32 := Scalar.subi v616 v618
  let c128_i32 : BitVec 32 := 128#32
  let c0_i32_170 : BitVec 32 := 0#32
  let v620 : BitVec 1 := Scalar.cmpi .sgt c128_i32 c0_i32_170
  let v621 : BitVec 32 := Scalar.extui v620
  let c0_i32_171 : BitVec 32 := 0#32
  let v622 : BitVec 1 := Scalar.cmpi .slt c128_i32 c0_i32_171
  let v623 : BitVec 32 := Scalar.extui v622
  let v624 : BitVec 32 := Scalar.subi v621 v623
  let v625 : BitVec 1 := Scalar.cmpi .ne v619 v624
  let v626 : BitVec 32 := Scalar.remsi v613 c128_i32
  let c0_i32_172 : BitVec 32 := 0#32
  let v627 : BitVec 1 := Scalar.cmpi .ne v626 c0_i32_172
  let v628 : BitVec 1 := Scalar.andi v625 v627
  let v614 : BitVec 32 := Scalar.divsi v613 c128_i32
  let c1_i32_173 : BitVec 32 := 1#32
  let v629 : BitVec 32 := Scalar.subi v614 c1_i32_173
  let v630 : BitVec 32 := Scalar.select v628 v629 v614
  let c128_i32_174 : BitVec 32 := 128#32
  let v631 : BitVec 32 := Scalar.muli v630 c128_i32_174
  let v632 : BitVec 32 := v631
  let v633 : Index := Scalar.indexCast v632
  ![0, v633.toNat]
def k0_off58 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_224 : BitVec 32 := 0#32
  let v837 : BitVec 32 := Scalar.addi v613 c0_i32_224
  let c0_i32_225 : BitVec 32 := 0#32
  let v838 : BitVec 32 := Scalar.addi v837 c0_i32_225
  let v839 : Index := Scalar.indexCast v838
  ![v839.toNat]
def k0_off59 (v840 : BitVec 32) : Fin 3 → Nat :=
  let v842 : Index := Scalar.indexCast v840
  let c64_226 : Index := 64#32
  let c0_227 : Index := 0#32
  ![v842.toNat, 64, 0]

def k0_off60 (v840 : BitVec 32) : Fin 3 → Nat :=
  let v845 : Index := Scalar.indexCast v840
  let c0_228 : Index := 0#32
  let c0_229 : Index := 0#32
  ![v845.toNat, 0, 0]

def k0_chk1 (v840 : BitVec 32) : Prop :=
  (∀ a, (k0_off59 v840) a + S1x64x128.size a ≤ S128x128x128.size a) ∧
  (∀ a, (k0_off60 v840) a + S1x64x128.size a ≤ S128x128x128.size a)
theorem k0_off59_inb : ∀ (v840 : BitVec 32) (k0_hw1 : k0_chk1 v840), ∀ a, (k0_off59 v840) a + S1x64x128.size a ≤ S128x128x128.size a := fun v840 k0_hw1 => k0_hw1.1
theorem k0_off60_inb : ∀ (v840 : BitVec 32) (k0_hw1 : k0_chk1 v840), ∀ a, (k0_off60 v840) a + S1x64x128.size a ≤ S128x128x128.size a := fun v840 k0_hw1 => k0_hw1.2

def k0_off61 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_230 : BitVec 32 := 0#32
  let v854 : BitVec 32 := Scalar.addi v613 c0_i32_230
  let c1_i32_231 : BitVec 32 := 1#32
  let v855 : BitVec 32 := Scalar.addi v854 c1_i32_231
  let v856 : Index := Scalar.indexCast v855
  ![v856.toNat]
def k0_off62 (v857 : BitVec 32) : Fin 3 → Nat :=
  let v859 : Index := Scalar.indexCast v857
  let c64_232 : Index := 64#32
  let c0_233 : Index := 0#32
  ![v859.toNat, 64, 0]

def k0_off63 (v857 : BitVec 32) : Fin 3 → Nat :=
  let v862 : Index := Scalar.indexCast v857
  let c0_234 : Index := 0#32
  let c0_235 : Index := 0#32
  ![v862.toNat, 0, 0]

def k0_chk2 (v857 : BitVec 32) : Prop :=
  (∀ a, (k0_off62 v857) a + S1x64x128.size a ≤ S128x128x128.size a) ∧
  (∀ a, (k0_off63 v857) a + S1x64x128.size a ≤ S128x128x128.size a)
theorem k0_off62_inb : ∀ (v857 : BitVec 32) (k0_hw2 : k0_chk2 v857), ∀ a, (k0_off62 v857) a + S1x64x128.size a ≤ S128x128x128.size a := fun v857 k0_hw2 => k0_hw2.1
theorem k0_off63_inb : ∀ (v857 : BitVec 32) (k0_hw2 : k0_chk2 v857), ∀ a, (k0_off63 v857) a + S1x64x128.size a ≤ S128x128x128.size a := fun v857 k0_hw2 => k0_hw2.2

def k0_off64 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_236 : BitVec 32 := 0#32
  let v871 : BitVec 32 := Scalar.addi v613 c0_i32_236
  let c2_i32_237 : BitVec 32 := 2#32
  let v872 : BitVec 32 := Scalar.addi v871 c2_i32_237
  let v873 : Index := Scalar.indexCast v872
  ![v873.toNat]
def k0_off65 (v874 : BitVec 32) : Fin 3 → Nat :=
  let v876 : Index := Scalar.indexCast v874
  let c64_238 : Index := 64#32
  let c0_239 : Index := 0#32
  ![v876.toNat, 64, 0]

def k0_off66 (v874 : BitVec 32) : Fin 3 → Nat :=
  let v879 : Index := Scalar.indexCast v874
  let c0_240 : Index := 0#32
  let c0_241 : Index := 0#32
  ![v879.toNat, 0, 0]

def k0_chk3 (v874 : BitVec 32) : Prop :=
  (∀ a, (k0_off65 v874) a + S1x64x128.size a ≤ S128x128x128.size a) ∧
  (∀ a, (k0_off66 v874) a + S1x64x128.size a ≤ S128x128x128.size a)
theorem k0_off65_inb : ∀ (v874 : BitVec 32) (k0_hw3 : k0_chk3 v874), ∀ a, (k0_off65 v874) a + S1x64x128.size a ≤ S128x128x128.size a := fun v874 k0_hw3 => k0_hw3.1
theorem k0_off66_inb : ∀ (v874 : BitVec 32) (k0_hw3 : k0_chk3 v874), ∀ a, (k0_off66 v874) a + S1x64x128.size a ≤ S128x128x128.size a := fun v874 k0_hw3 => k0_hw3.2

def k0_off67 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_242 : BitVec 32 := 0#32
  let v888 : BitVec 32 := Scalar.addi v613 c0_i32_242
  let c3_i32_243 : BitVec 32 := 3#32
  let v889 : BitVec 32 := Scalar.addi v888 c3_i32_243
  let v890 : Index := Scalar.indexCast v889
  ![v890.toNat]
def k0_off68 (v891 : BitVec 32) : Fin 3 → Nat :=
  let v893 : Index := Scalar.indexCast v891
  let c64_244 : Index := 64#32
  let c0_245 : Index := 0#32
  ![v893.toNat, 64, 0]

def k0_off69 (v891 : BitVec 32) : Fin 3 → Nat :=
  let v896 : Index := Scalar.indexCast v891
  let c0_246 : Index := 0#32
  let c0_247 : Index := 0#32
  ![v896.toNat, 0, 0]

def k0_chk4 (v891 : BitVec 32) : Prop :=
  (∀ a, (k0_off68 v891) a + S1x64x128.size a ≤ S128x128x128.size a) ∧
  (∀ a, (k0_off69 v891) a + S1x64x128.size a ≤ S128x128x128.size a)
theorem k0_off68_inb : ∀ (v891 : BitVec 32) (k0_hw4 : k0_chk4 v891), ∀ a, (k0_off68 v891) a + S1x64x128.size a ≤ S128x128x128.size a := fun v891 k0_hw4 => k0_hw4.1
theorem k0_off69_inb : ∀ (v891 : BitVec 32) (k0_hw4 : k0_chk4 v891), ∀ a, (k0_off69 v891) a + S1x64x128.size a ≤ S128x128x128.size a := fun v891 k0_hw4 => k0_hw4.2

def k0_off70 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_248 : BitVec 32 := 0#32
  let v905 : BitVec 32 := Scalar.addi v613 c0_i32_248
  let c4_i32_249 : BitVec 32 := 4#32
  let v906 : BitVec 32 := Scalar.addi v905 c4_i32_249
  let v907 : Index := Scalar.indexCast v906
  ![v907.toNat]
def k0_off71 (v908 : BitVec 32) : Fin 3 → Nat :=
  let v910 : Index := Scalar.indexCast v908
  let c64_250 : Index := 64#32
  let c0_251 : Index := 0#32
  ![v910.toNat, 64, 0]

def k0_off72 (v908 : BitVec 32) : Fin 3 → Nat :=
  let v913 : Index := Scalar.indexCast v908
  let c0_252 : Index := 0#32
  let c0_253 : Index := 0#32
  ![v913.toNat, 0, 0]

def k0_chk5 (v908 : BitVec 32) : Prop :=
  (∀ a, (k0_off71 v908) a + S1x64x128.size a ≤ S128x128x128.size a) ∧
  (∀ a, (k0_off72 v908) a + S1x64x128.size a ≤ S128x128x128.size a)
theorem k0_off71_inb : ∀ (v908 : BitVec 32) (k0_hw5 : k0_chk5 v908), ∀ a, (k0_off71 v908) a + S1x64x128.size a ≤ S128x128x128.size a := fun v908 k0_hw5 => k0_hw5.1
theorem k0_off72_inb : ∀ (v908 : BitVec 32) (k0_hw5 : k0_chk5 v908), ∀ a, (k0_off72 v908) a + S1x64x128.size a ≤ S128x128x128.size a := fun v908 k0_hw5 => k0_hw5.2

def k0_off73 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_254 : BitVec 32 := 0#32
  let v922 : BitVec 32 := Scalar.addi v613 c0_i32_254
  let c5_i32_255 : BitVec 32 := 5#32
  let v923 : BitVec 32 := Scalar.addi v922 c5_i32_255
  let v924 : Index := Scalar.indexCast v923
  ![v924.toNat]
def k0_off74 (v925 : BitVec 32) : Fin 3 → Nat :=
  let v927 : Index := Scalar.indexCast v925
  let c64_256 : Index := 64#32
  let c0_257 : Index := 0#32
  ![v927.toNat, 64, 0]

def k0_off75 (v925 : BitVec 32) : Fin 3 → Nat :=
  let v930 : Index := Scalar.indexCast v925
  let c0_258 : Index := 0#32
  let c0_259 : Index := 0#32
  ![v930.toNat, 0, 0]

def k0_chk6 (v925 : BitVec 32) : Prop :=
  (∀ a, (k0_off74 v925) a + S1x64x128.size a ≤ S128x128x128.size a) ∧
  (∀ a, (k0_off75 v925) a + S1x64x128.size a ≤ S128x128x128.size a)
theorem k0_off74_inb : ∀ (v925 : BitVec 32) (k0_hw6 : k0_chk6 v925), ∀ a, (k0_off74 v925) a + S1x64x128.size a ≤ S128x128x128.size a := fun v925 k0_hw6 => k0_hw6.1
theorem k0_off75_inb : ∀ (v925 : BitVec 32) (k0_hw6 : k0_chk6 v925), ∀ a, (k0_off75 v925) a + S1x64x128.size a ≤ S128x128x128.size a := fun v925 k0_hw6 => k0_hw6.2

def k0_off76 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_260 : BitVec 32 := 0#32
  let v939 : BitVec 32 := Scalar.addi v613 c0_i32_260
  let c6_i32_261 : BitVec 32 := 6#32
  let v940 : BitVec 32 := Scalar.addi v939 c6_i32_261
  let v941 : Index := Scalar.indexCast v940
  ![v941.toNat]
def k0_off77 (v942 : BitVec 32) : Fin 3 → Nat :=
  let v944 : Index := Scalar.indexCast v942
  let c64_262 : Index := 64#32
  let c0_263 : Index := 0#32
  ![v944.toNat, 64, 0]

def k0_off78 (v942 : BitVec 32) : Fin 3 → Nat :=
  let v947 : Index := Scalar.indexCast v942
  let c0_264 : Index := 0#32
  let c0_265 : Index := 0#32
  ![v947.toNat, 0, 0]

def k0_chk7 (v942 : BitVec 32) : Prop :=
  (∀ a, (k0_off77 v942) a + S1x64x128.size a ≤ S128x128x128.size a) ∧
  (∀ a, (k0_off78 v942) a + S1x64x128.size a ≤ S128x128x128.size a)
theorem k0_off77_inb : ∀ (v942 : BitVec 32) (k0_hw7 : k0_chk7 v942), ∀ a, (k0_off77 v942) a + S1x64x128.size a ≤ S128x128x128.size a := fun v942 k0_hw7 => k0_hw7.1
theorem k0_off78_inb : ∀ (v942 : BitVec 32) (k0_hw7 : k0_chk7 v942), ∀ a, (k0_off78 v942) a + S1x64x128.size a ≤ S128x128x128.size a := fun v942 k0_hw7 => k0_hw7.2

def k0_off79 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_266 : BitVec 32 := 0#32
  let v956 : BitVec 32 := Scalar.addi v613 c0_i32_266
  let c7_i32 : BitVec 32 := 7#32
  let v957 : BitVec 32 := Scalar.addi v956 c7_i32
  let v958 : Index := Scalar.indexCast v957
  ![v958.toNat]
def k0_off80 (v959 : BitVec 32) : Fin 3 → Nat :=
  let v961 : Index := Scalar.indexCast v959
  let c64_267 : Index := 64#32
  let c0_268 : Index := 0#32
  ![v961.toNat, 64, 0]

def k0_off81 (v959 : BitVec 32) : Fin 3 → Nat :=
  let v964 : Index := Scalar.indexCast v959
  let c0_269 : Index := 0#32
  let c0_270 : Index := 0#32
  ![v964.toNat, 0, 0]

def k0_chk8 (v959 : BitVec 32) : Prop :=
  (∀ a, (k0_off80 v959) a + S1x64x128.size a ≤ S128x128x128.size a) ∧
  (∀ a, (k0_off81 v959) a + S1x64x128.size a ≤ S128x128x128.size a)
theorem k0_off80_inb : ∀ (v959 : BitVec 32) (k0_hw8 : k0_chk8 v959), ∀ a, (k0_off80 v959) a + S1x64x128.size a ≤ S128x128x128.size a := fun v959 k0_hw8 => k0_hw8.1
theorem k0_off81_inb : ∀ (v959 : BitVec 32) (k0_hw8 : k0_chk8 v959), ∀ a, (k0_off81 v959) a + S1x64x128.size a ≤ S128x128x128.size a := fun v959 k0_hw8 => k0_hw8.2

def k0_off82 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_271 : BitVec 32 := 0#32
  let v973 : BitVec 32 := Scalar.addi v613 c0_i32_271
  let c8_i32_272 : BitVec 32 := 8#32
  let v974 : BitVec 32 := Scalar.addi v973 c8_i32_272
  let v975 : Index := Scalar.indexCast v974
  ![v975.toNat]
def k0_off83 (v976 : BitVec 32) : Fin 3 → Nat :=
  let v978 : Index := Scalar.indexCast v976
  let c64_273 : Index := 64#32
  let c0_274 : Index := 0#32
  ![v978.toNat, 64, 0]

def k0_off84 (v976 : BitVec 32) : Fin 3 → Nat :=
  let v981 : Index := Scalar.indexCast v976
  let c0_275 : Index := 0#32
  let c0_276 : Index := 0#32
  ![v981.toNat, 0, 0]

def k0_chk9 (v976 : BitVec 32) : Prop :=
  (∀ a, (k0_off83 v976) a + S1x64x128.size a ≤ S128x128x128.size a) ∧
  (∀ a, (k0_off84 v976) a + S1x64x128.size a ≤ S128x128x128.size a)
theorem k0_off83_inb : ∀ (v976 : BitVec 32) (k0_hw9 : k0_chk9 v976), ∀ a, (k0_off83 v976) a + S1x64x128.size a ≤ S128x128x128.size a := fun v976 k0_hw9 => k0_hw9.1
theorem k0_off84_inb : ∀ (v976 : BitVec 32) (k0_hw9 : k0_chk9 v976), ∀ a, (k0_off84 v976) a + S1x64x128.size a ≤ S128x128x128.size a := fun v976 k0_hw9 => k0_hw9.2

def k0_off85 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_277 : BitVec 32 := 0#32
  let v990 : BitVec 32 := Scalar.addi v613 c0_i32_277
  let c9_i32_278 : BitVec 32 := 9#32
  let v991 : BitVec 32 := Scalar.addi v990 c9_i32_278
  let v992 : Index := Scalar.indexCast v991
  ![v992.toNat]
def k0_off86 (v993 : BitVec 32) : Fin 3 → Nat :=
  let v995 : Index := Scalar.indexCast v993
  let c64_279 : Index := 64#32
  let c0_280 : Index := 0#32
  ![v995.toNat, 64, 0]

def k0_off87 (v993 : BitVec 32) : Fin 3 → Nat :=
  let v998 : Index := Scalar.indexCast v993
  let c0_281 : Index := 0#32
  let c0_282 : Index := 0#32
  ![v998.toNat, 0, 0]

def k0_chk10 (v993 : BitVec 32) : Prop :=
  (∀ a, (k0_off86 v993) a + S1x64x128.size a ≤ S128x128x128.size a) ∧
  (∀ a, (k0_off87 v993) a + S1x64x128.size a ≤ S128x128x128.size a)
theorem k0_off86_inb : ∀ (v993 : BitVec 32) (k0_hw10 : k0_chk10 v993), ∀ a, (k0_off86 v993) a + S1x64x128.size a ≤ S128x128x128.size a := fun v993 k0_hw10 => k0_hw10.1
theorem k0_off87_inb : ∀ (v993 : BitVec 32) (k0_hw10 : k0_chk10 v993), ∀ a, (k0_off87 v993) a + S1x64x128.size a ≤ S128x128x128.size a := fun v993 k0_hw10 => k0_hw10.2

def k0_off88 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_283 : BitVec 32 := 0#32
  let v1007 : BitVec 32 := Scalar.addi v613 c0_i32_283
  let c10_i32_284 : BitVec 32 := 10#32
  let v1008 : BitVec 32 := Scalar.addi v1007 c10_i32_284
  let v1009 : Index := Scalar.indexCast v1008
  ![v1009.toNat]
def k0_off89 (v1010 : BitVec 32) : Fin 3 → Nat :=
  let v1012 : Index := Scalar.indexCast v1010
  let c64_285 : Index := 64#32
  let c0_286 : Index := 0#32
  ![v1012.toNat, 64, 0]

def k0_off90 (v1010 : BitVec 32) : Fin 3 → Nat :=
  let v1015 : Index := Scalar.indexCast v1010
  let c0_287 : Index := 0#32
  let c0_288 : Index := 0#32
  ![v1015.toNat, 0, 0]

def k0_chk11 (v1010 : BitVec 32) : Prop :=
  (∀ a, (k0_off89 v1010) a + S1x64x128.size a ≤ S128x128x128.size a) ∧
  (∀ a, (k0_off90 v1010) a + S1x64x128.size a ≤ S128x128x128.size a)
theorem k0_off89_inb : ∀ (v1010 : BitVec 32) (k0_hw11 : k0_chk11 v1010), ∀ a, (k0_off89 v1010) a + S1x64x128.size a ≤ S128x128x128.size a := fun v1010 k0_hw11 => k0_hw11.1
theorem k0_off90_inb : ∀ (v1010 : BitVec 32) (k0_hw11 : k0_chk11 v1010), ∀ a, (k0_off90 v1010) a + S1x64x128.size a ≤ S128x128x128.size a := fun v1010 k0_hw11 => k0_hw11.2

def k0_off91 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_289 : BitVec 32 := 0#32
  let v1024 : BitVec 32 := Scalar.addi v613 c0_i32_289
  let c11_i32_290 : BitVec 32 := 11#32
  let v1025 : BitVec 32 := Scalar.addi v1024 c11_i32_290
  let v1026 : Index := Scalar.indexCast v1025
  ![v1026.toNat]
def k0_off92 (v1027 : BitVec 32) : Fin 3 → Nat :=
  let v1029 : Index := Scalar.indexCast v1027
  let c64_291 : Index := 64#32
  let c0_292 : Index := 0#32
  ![v1029.toNat, 64, 0]

def k0_off93 (v1027 : BitVec 32) : Fin 3 → Nat :=
  let v1032 : Index := Scalar.indexCast v1027
  let c0_293 : Index := 0#32
  let c0_294 : Index := 0#32
  ![v1032.toNat, 0, 0]

def k0_chk12 (v1027 : BitVec 32) : Prop :=
  (∀ a, (k0_off92 v1027) a + S1x64x128.size a ≤ S128x128x128.size a) ∧
  (∀ a, (k0_off93 v1027) a + S1x64x128.size a ≤ S128x128x128.size a)
theorem k0_off92_inb : ∀ (v1027 : BitVec 32) (k0_hw12 : k0_chk12 v1027), ∀ a, (k0_off92 v1027) a + S1x64x128.size a ≤ S128x128x128.size a := fun v1027 k0_hw12 => k0_hw12.1
theorem k0_off93_inb : ∀ (v1027 : BitVec 32) (k0_hw12 : k0_chk12 v1027), ∀ a, (k0_off93 v1027) a + S1x64x128.size a ≤ S128x128x128.size a := fun v1027 k0_hw12 => k0_hw12.2

def k0_off94 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_295 : BitVec 32 := 0#32
  let v1041 : BitVec 32 := Scalar.addi v613 c0_i32_295
  let c12_i32_296 : BitVec 32 := 12#32
  let v1042 : BitVec 32 := Scalar.addi v1041 c12_i32_296
  let v1043 : Index := Scalar.indexCast v1042
  ![v1043.toNat]
def k0_off95 (v1044 : BitVec 32) : Fin 3 → Nat :=
  let v1046 : Index := Scalar.indexCast v1044
  let c64_297 : Index := 64#32
  let c0_298 : Index := 0#32
  ![v1046.toNat, 64, 0]

def k0_off96 (v1044 : BitVec 32) : Fin 3 → Nat :=
  let v1049 : Index := Scalar.indexCast v1044
  let c0_299 : Index := 0#32
  let c0_300 : Index := 0#32
  ![v1049.toNat, 0, 0]

def k0_chk13 (v1044 : BitVec 32) : Prop :=
  (∀ a, (k0_off95 v1044) a + S1x64x128.size a ≤ S128x128x128.size a) ∧
  (∀ a, (k0_off96 v1044) a + S1x64x128.size a ≤ S128x128x128.size a)
theorem k0_off95_inb : ∀ (v1044 : BitVec 32) (k0_hw13 : k0_chk13 v1044), ∀ a, (k0_off95 v1044) a + S1x64x128.size a ≤ S128x128x128.size a := fun v1044 k0_hw13 => k0_hw13.1
theorem k0_off96_inb : ∀ (v1044 : BitVec 32) (k0_hw13 : k0_chk13 v1044), ∀ a, (k0_off96 v1044) a + S1x64x128.size a ≤ S128x128x128.size a := fun v1044 k0_hw13 => k0_hw13.2

def k0_off97 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_301 : BitVec 32 := 0#32
  let v1058 : BitVec 32 := Scalar.addi v613 c0_i32_301
  let c13_i32_302 : BitVec 32 := 13#32
  let v1059 : BitVec 32 := Scalar.addi v1058 c13_i32_302
  let v1060 : Index := Scalar.indexCast v1059
  ![v1060.toNat]
def k0_off98 (v1061 : BitVec 32) : Fin 3 → Nat :=
  let v1063 : Index := Scalar.indexCast v1061
  let c64_303 : Index := 64#32
  let c0_304 : Index := 0#32
  ![v1063.toNat, 64, 0]

def k0_off99 (v1061 : BitVec 32) : Fin 3 → Nat :=
  let v1066 : Index := Scalar.indexCast v1061
  let c0_305 : Index := 0#32
  let c0_306 : Index := 0#32
  ![v1066.toNat, 0, 0]

def k0_chk14 (v1061 : BitVec 32) : Prop :=
  (∀ a, (k0_off98 v1061) a + S1x64x128.size a ≤ S128x128x128.size a) ∧
  (∀ a, (k0_off99 v1061) a + S1x64x128.size a ≤ S128x128x128.size a)
theorem k0_off98_inb : ∀ (v1061 : BitVec 32) (k0_hw14 : k0_chk14 v1061), ∀ a, (k0_off98 v1061) a + S1x64x128.size a ≤ S128x128x128.size a := fun v1061 k0_hw14 => k0_hw14.1
theorem k0_off99_inb : ∀ (v1061 : BitVec 32) (k0_hw14 : k0_chk14 v1061), ∀ a, (k0_off99 v1061) a + S1x64x128.size a ≤ S128x128x128.size a := fun v1061 k0_hw14 => k0_hw14.2

def k0_off100 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_307 : BitVec 32 := 0#32
  let v1075 : BitVec 32 := Scalar.addi v613 c0_i32_307
  let c14_i32_308 : BitVec 32 := 14#32
  let v1076 : BitVec 32 := Scalar.addi v1075 c14_i32_308
  let v1077 : Index := Scalar.indexCast v1076
  ![v1077.toNat]
def k0_off101 (v1078 : BitVec 32) : Fin 3 → Nat :=
  let v1080 : Index := Scalar.indexCast v1078
  let c64_309 : Index := 64#32
  let c0_310 : Index := 0#32
  ![v1080.toNat, 64, 0]

def k0_off102 (v1078 : BitVec 32) : Fin 3 → Nat :=
  let v1083 : Index := Scalar.indexCast v1078
  let c0_311 : Index := 0#32
  let c0_312 : Index := 0#32
  ![v1083.toNat, 0, 0]

def k0_chk15 (v1078 : BitVec 32) : Prop :=
  (∀ a, (k0_off101 v1078) a + S1x64x128.size a ≤ S128x128x128.size a) ∧
  (∀ a, (k0_off102 v1078) a + S1x64x128.size a ≤ S128x128x128.size a)
theorem k0_off101_inb : ∀ (v1078 : BitVec 32) (k0_hw15 : k0_chk15 v1078), ∀ a, (k0_off101 v1078) a + S1x64x128.size a ≤ S128x128x128.size a := fun v1078 k0_hw15 => k0_hw15.1
theorem k0_off102_inb : ∀ (v1078 : BitVec 32) (k0_hw15 : k0_chk15 v1078), ∀ a, (k0_off102 v1078) a + S1x64x128.size a ≤ S128x128x128.size a := fun v1078 k0_hw15 => k0_hw15.2

def k0_off103 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c0_i32_313 : BitVec 32 := 0#32
  let v1092 : BitVec 32 := Scalar.addi v613 c0_i32_313
  let c15_i32 : BitVec 32 := 15#32
  let v1093 : BitVec 32 := Scalar.addi v1092 c15_i32
  let v1094 : Index := Scalar.indexCast v1093
  ![v1094.toNat]
def k0_off104 (v1095 : BitVec 32) : Fin 3 → Nat :=
  let v1097 : Index := Scalar.indexCast v1095
  let c64_314 : Index := 64#32
  let c0_315 : Index := 0#32
  ![v1097.toNat, 64, 0]

def k0_off105 (v1095 : BitVec 32) : Fin 3 → Nat :=
  let v1100 : Index := Scalar.indexCast v1095
  let c0_316 : Index := 0#32
  let c0_317 : Index := 0#32
  ![v1100.toNat, 0, 0]

def k0_chk16 (v1095 : BitVec 32) : Prop :=
  (∀ a, (k0_off104 v1095) a + S1x64x128.size a ≤ S128x128x128.size a) ∧
  (∀ a, (k0_off105 v1095) a + S1x64x128.size a ≤ S128x128x128.size a)
theorem k0_off104_inb : ∀ (v1095 : BitVec 32) (k0_hw16 : k0_chk16 v1095), ∀ a, (k0_off104 v1095) a + S1x64x128.size a ≤ S128x128x128.size a := fun v1095 k0_hw16 => k0_hw16.1
theorem k0_off105_inb : ∀ (v1095 : BitVec 32) (k0_hw16 : k0_chk16 v1095), ∀ a, (k0_off105 v1095) a + S1x64x128.size a ≤ S128x128x128.size a := fun v1095 k0_hw16 => k0_hw16.2

def k0_off106 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_401 : BitVec 32 := 16#32
  let v1451 : BitVec 32 := Scalar.addi v613 c16_i32_401
  let c0_i32_402 : BitVec 32 := 0#32
  let v1452 : BitVec 32 := Scalar.addi v1451 c0_i32_402
  let v1453 : Index := Scalar.indexCast v1452
  ![v1453.toNat]
def k0_off107 (v1454 : BitVec 32) : Fin 3 → Nat :=
  let v1456 : Index := Scalar.indexCast v1454
  let c64_403 : Index := 64#32
  let c0_404 : Index := 0#32
  ![v1456.toNat, 64, 0]

def k0_off108 (v1454 : BitVec 32) : Fin 3 → Nat :=
  let v1459 : Index := Scalar.indexCast v1454
  let c0_405 : Index := 0#32
  let c0_406 : Index := 0#32
  ![v1459.toNat, 0, 0]

def k0_chk17 (v1454 : BitVec 32) : Prop :=
  (∀ a, (k0_off107 v1454) a + S1x64x128.size a ≤ S128x128x128.size a) ∧
  (∀ a, (k0_off108 v1454) a + S1x64x128.size a ≤ S128x128x128.size a)
theorem k0_off107_inb : ∀ (v1454 : BitVec 32) (k0_hw17 : k0_chk17 v1454), ∀ a, (k0_off107 v1454) a + S1x64x128.size a ≤ S128x128x128.size a := fun v1454 k0_hw17 => k0_hw17.1
theorem k0_off108_inb : ∀ (v1454 : BitVec 32) (k0_hw17 : k0_chk17 v1454), ∀ a, (k0_off108 v1454) a + S1x64x128.size a ≤ S128x128x128.size a := fun v1454 k0_hw17 => k0_hw17.2

def k0_off109 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_407 : BitVec 32 := 16#32
  let v1468 : BitVec 32 := Scalar.addi v613 c16_i32_407
  let c1_i32_408 : BitVec 32 := 1#32
  let v1469 : BitVec 32 := Scalar.addi v1468 c1_i32_408
  let v1470 : Index := Scalar.indexCast v1469
  ![v1470.toNat]
def k0_off110 (v1471 : BitVec 32) : Fin 3 → Nat :=
  let v1473 : Index := Scalar.indexCast v1471
  let c64_409 : Index := 64#32
  let c0_410 : Index := 0#32
  ![v1473.toNat, 64, 0]

def k0_off111 (v1471 : BitVec 32) : Fin 3 → Nat :=
  let v1476 : Index := Scalar.indexCast v1471
  let c0_411 : Index := 0#32
  let c0_412 : Index := 0#32
  ![v1476.toNat, 0, 0]

def k0_chk18 (v1471 : BitVec 32) : Prop :=
  (∀ a, (k0_off110 v1471) a + S1x64x128.size a ≤ S128x128x128.size a) ∧
  (∀ a, (k0_off111 v1471) a + S1x64x128.size a ≤ S128x128x128.size a)
theorem k0_off110_inb : ∀ (v1471 : BitVec 32) (k0_hw18 : k0_chk18 v1471), ∀ a, (k0_off110 v1471) a + S1x64x128.size a ≤ S128x128x128.size a := fun v1471 k0_hw18 => k0_hw18.1
theorem k0_off111_inb : ∀ (v1471 : BitVec 32) (k0_hw18 : k0_chk18 v1471), ∀ a, (k0_off111 v1471) a + S1x64x128.size a ≤ S128x128x128.size a := fun v1471 k0_hw18 => k0_hw18.2

def k0_off112 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_413 : BitVec 32 := 16#32
  let v1485 : BitVec 32 := Scalar.addi v613 c16_i32_413
  let c2_i32_414 : BitVec 32 := 2#32
  let v1486 : BitVec 32 := Scalar.addi v1485 c2_i32_414
  let v1487 : Index := Scalar.indexCast v1486
  ![v1487.toNat]
def k0_off113 (v1488 : BitVec 32) : Fin 3 → Nat :=
  let v1490 : Index := Scalar.indexCast v1488
  let c64_415 : Index := 64#32
  let c0_416 : Index := 0#32
  ![v1490.toNat, 64, 0]

def k0_off114 (v1488 : BitVec 32) : Fin 3 → Nat :=
  let v1493 : Index := Scalar.indexCast v1488
  let c0_417 : Index := 0#32
  let c0_418 : Index := 0#32
  ![v1493.toNat, 0, 0]

def k0_chk19 (v1488 : BitVec 32) : Prop :=
  (∀ a, (k0_off113 v1488) a + S1x64x128.size a ≤ S128x128x128.size a) ∧
  (∀ a, (k0_off114 v1488) a + S1x64x128.size a ≤ S128x128x128.size a)
theorem k0_off113_inb : ∀ (v1488 : BitVec 32) (k0_hw19 : k0_chk19 v1488), ∀ a, (k0_off113 v1488) a + S1x64x128.size a ≤ S128x128x128.size a := fun v1488 k0_hw19 => k0_hw19.1
theorem k0_off114_inb : ∀ (v1488 : BitVec 32) (k0_hw19 : k0_chk19 v1488), ∀ a, (k0_off114 v1488) a + S1x64x128.size a ≤ S128x128x128.size a := fun v1488 k0_hw19 => k0_hw19.2

def k0_off115 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_419 : BitVec 32 := 16#32
  let v1502 : BitVec 32 := Scalar.addi v613 c16_i32_419
  let c3_i32_420 : BitVec 32 := 3#32
  let v1503 : BitVec 32 := Scalar.addi v1502 c3_i32_420
  let v1504 : Index := Scalar.indexCast v1503
  ![v1504.toNat]
def k0_off116 (v1505 : BitVec 32) : Fin 3 → Nat :=
  let v1507 : Index := Scalar.indexCast v1505
  let c64_421 : Index := 64#32
  let c0_422 : Index := 0#32
  ![v1507.toNat, 64, 0]

def k0_off117 (v1505 : BitVec 32) : Fin 3 → Nat :=
  let v1510 : Index := Scalar.indexCast v1505
  let c0_423 : Index := 0#32
  let c0_424 : Index := 0#32
  ![v1510.toNat, 0, 0]

def k0_chk20 (v1505 : BitVec 32) : Prop :=
  (∀ a, (k0_off116 v1505) a + S1x64x128.size a ≤ S128x128x128.size a) ∧
  (∀ a, (k0_off117 v1505) a + S1x64x128.size a ≤ S128x128x128.size a)
theorem k0_off116_inb : ∀ (v1505 : BitVec 32) (k0_hw20 : k0_chk20 v1505), ∀ a, (k0_off116 v1505) a + S1x64x128.size a ≤ S128x128x128.size a := fun v1505 k0_hw20 => k0_hw20.1
theorem k0_off117_inb : ∀ (v1505 : BitVec 32) (k0_hw20 : k0_chk20 v1505), ∀ a, (k0_off117 v1505) a + S1x64x128.size a ≤ S128x128x128.size a := fun v1505 k0_hw20 => k0_hw20.2

def k0_off118 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_425 : BitVec 32 := 16#32
  let v1519 : BitVec 32 := Scalar.addi v613 c16_i32_425
  let c4_i32_426 : BitVec 32 := 4#32
  let v1520 : BitVec 32 := Scalar.addi v1519 c4_i32_426
  let v1521 : Index := Scalar.indexCast v1520
  ![v1521.toNat]
def k0_off119 (v1522 : BitVec 32) : Fin 3 → Nat :=
  let v1524 : Index := Scalar.indexCast v1522
  let c64_427 : Index := 64#32
  let c0_428 : Index := 0#32
  ![v1524.toNat, 64, 0]

def k0_off120 (v1522 : BitVec 32) : Fin 3 → Nat :=
  let v1527 : Index := Scalar.indexCast v1522
  let c0_429 : Index := 0#32
  let c0_430 : Index := 0#32
  ![v1527.toNat, 0, 0]

def k0_chk21 (v1522 : BitVec 32) : Prop :=
  (∀ a, (k0_off119 v1522) a + S1x64x128.size a ≤ S128x128x128.size a) ∧
  (∀ a, (k0_off120 v1522) a + S1x64x128.size a ≤ S128x128x128.size a)
theorem k0_off119_inb : ∀ (v1522 : BitVec 32) (k0_hw21 : k0_chk21 v1522), ∀ a, (k0_off119 v1522) a + S1x64x128.size a ≤ S128x128x128.size a := fun v1522 k0_hw21 => k0_hw21.1
theorem k0_off120_inb : ∀ (v1522 : BitVec 32) (k0_hw21 : k0_chk21 v1522), ∀ a, (k0_off120 v1522) a + S1x64x128.size a ≤ S128x128x128.size a := fun v1522 k0_hw21 => k0_hw21.2

def k0_off121 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_431 : BitVec 32 := 16#32
  let v1536 : BitVec 32 := Scalar.addi v613 c16_i32_431
  let c5_i32_432 : BitVec 32 := 5#32
  let v1537 : BitVec 32 := Scalar.addi v1536 c5_i32_432
  let v1538 : Index := Scalar.indexCast v1537
  ![v1538.toNat]
def k0_off122 (v1539 : BitVec 32) : Fin 3 → Nat :=
  let v1541 : Index := Scalar.indexCast v1539
  let c64_433 : Index := 64#32
  let c0_434 : Index := 0#32
  ![v1541.toNat, 64, 0]

def k0_off123 (v1539 : BitVec 32) : Fin 3 → Nat :=
  let v1544 : Index := Scalar.indexCast v1539
  let c0_435 : Index := 0#32
  let c0_436 : Index := 0#32
  ![v1544.toNat, 0, 0]

def k0_chk22 (v1539 : BitVec 32) : Prop :=
  (∀ a, (k0_off122 v1539) a + S1x64x128.size a ≤ S128x128x128.size a) ∧
  (∀ a, (k0_off123 v1539) a + S1x64x128.size a ≤ S128x128x128.size a)
theorem k0_off122_inb : ∀ (v1539 : BitVec 32) (k0_hw22 : k0_chk22 v1539), ∀ a, (k0_off122 v1539) a + S1x64x128.size a ≤ S128x128x128.size a := fun v1539 k0_hw22 => k0_hw22.1
theorem k0_off123_inb : ∀ (v1539 : BitVec 32) (k0_hw22 : k0_chk22 v1539), ∀ a, (k0_off123 v1539) a + S1x64x128.size a ≤ S128x128x128.size a := fun v1539 k0_hw22 => k0_hw22.2

def k0_off124 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_437 : BitVec 32 := 16#32
  let v1553 : BitVec 32 := Scalar.addi v613 c16_i32_437
  let c6_i32_438 : BitVec 32 := 6#32
  let v1554 : BitVec 32 := Scalar.addi v1553 c6_i32_438
  let v1555 : Index := Scalar.indexCast v1554
  ![v1555.toNat]
def k0_off125 (v1556 : BitVec 32) : Fin 3 → Nat :=
  let v1558 : Index := Scalar.indexCast v1556
  let c64_439 : Index := 64#32
  let c0_440 : Index := 0#32
  ![v1558.toNat, 64, 0]

def k0_off126 (v1556 : BitVec 32) : Fin 3 → Nat :=
  let v1561 : Index := Scalar.indexCast v1556
  let c0_441 : Index := 0#32
  let c0_442 : Index := 0#32
  ![v1561.toNat, 0, 0]

def k0_chk23 (v1556 : BitVec 32) : Prop :=
  (∀ a, (k0_off125 v1556) a + S1x64x128.size a ≤ S128x128x128.size a) ∧
  (∀ a, (k0_off126 v1556) a + S1x64x128.size a ≤ S128x128x128.size a)
theorem k0_off125_inb : ∀ (v1556 : BitVec 32) (k0_hw23 : k0_chk23 v1556), ∀ a, (k0_off125 v1556) a + S1x64x128.size a ≤ S128x128x128.size a := fun v1556 k0_hw23 => k0_hw23.1
theorem k0_off126_inb : ∀ (v1556 : BitVec 32) (k0_hw23 : k0_chk23 v1556), ∀ a, (k0_off126 v1556) a + S1x64x128.size a ≤ S128x128x128.size a := fun v1556 k0_hw23 => k0_hw23.2

def k0_off127 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_443 : BitVec 32 := 16#32
  let v1570 : BitVec 32 := Scalar.addi v613 c16_i32_443
  let c7_i32_444 : BitVec 32 := 7#32
  let v1571 : BitVec 32 := Scalar.addi v1570 c7_i32_444
  let v1572 : Index := Scalar.indexCast v1571
  ![v1572.toNat]
def k0_off128 (v1573 : BitVec 32) : Fin 3 → Nat :=
  let v1575 : Index := Scalar.indexCast v1573
  let c64_445 : Index := 64#32
  let c0_446 : Index := 0#32
  ![v1575.toNat, 64, 0]

def k0_off129 (v1573 : BitVec 32) : Fin 3 → Nat :=
  let v1578 : Index := Scalar.indexCast v1573
  let c0_447 : Index := 0#32
  let c0_448 : Index := 0#32
  ![v1578.toNat, 0, 0]

def k0_chk24 (v1573 : BitVec 32) : Prop :=
  (∀ a, (k0_off128 v1573) a + S1x64x128.size a ≤ S128x128x128.size a) ∧
  (∀ a, (k0_off129 v1573) a + S1x64x128.size a ≤ S128x128x128.size a)
theorem k0_off128_inb : ∀ (v1573 : BitVec 32) (k0_hw24 : k0_chk24 v1573), ∀ a, (k0_off128 v1573) a + S1x64x128.size a ≤ S128x128x128.size a := fun v1573 k0_hw24 => k0_hw24.1
theorem k0_off129_inb : ∀ (v1573 : BitVec 32) (k0_hw24 : k0_chk24 v1573), ∀ a, (k0_off129 v1573) a + S1x64x128.size a ≤ S128x128x128.size a := fun v1573 k0_hw24 => k0_hw24.2

def k0_off130 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_449 : BitVec 32 := 16#32
  let v1587 : BitVec 32 := Scalar.addi v613 c16_i32_449
  let c8_i32_450 : BitVec 32 := 8#32
  let v1588 : BitVec 32 := Scalar.addi v1587 c8_i32_450
  let v1589 : Index := Scalar.indexCast v1588
  ![v1589.toNat]
def k0_off131 (v1590 : BitVec 32) : Fin 3 → Nat :=
  let v1592 : Index := Scalar.indexCast v1590
  let c64_451 : Index := 64#32
  let c0_452 : Index := 0#32
  ![v1592.toNat, 64, 0]

def k0_off132 (v1590 : BitVec 32) : Fin 3 → Nat :=
  let v1595 : Index := Scalar.indexCast v1590
  let c0_453 : Index := 0#32
  let c0_454 : Index := 0#32
  ![v1595.toNat, 0, 0]

def k0_chk25 (v1590 : BitVec 32) : Prop :=
  (∀ a, (k0_off131 v1590) a + S1x64x128.size a ≤ S128x128x128.size a) ∧
  (∀ a, (k0_off132 v1590) a + S1x64x128.size a ≤ S128x128x128.size a)
theorem k0_off131_inb : ∀ (v1590 : BitVec 32) (k0_hw25 : k0_chk25 v1590), ∀ a, (k0_off131 v1590) a + S1x64x128.size a ≤ S128x128x128.size a := fun v1590 k0_hw25 => k0_hw25.1
theorem k0_off132_inb : ∀ (v1590 : BitVec 32) (k0_hw25 : k0_chk25 v1590), ∀ a, (k0_off132 v1590) a + S1x64x128.size a ≤ S128x128x128.size a := fun v1590 k0_hw25 => k0_hw25.2

def k0_off133 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_455 : BitVec 32 := 16#32
  let v1604 : BitVec 32 := Scalar.addi v613 c16_i32_455
  let c9_i32_456 : BitVec 32 := 9#32
  let v1605 : BitVec 32 := Scalar.addi v1604 c9_i32_456
  let v1606 : Index := Scalar.indexCast v1605
  ![v1606.toNat]
def k0_off134 (v1607 : BitVec 32) : Fin 3 → Nat :=
  let v1609 : Index := Scalar.indexCast v1607
  let c64_457 : Index := 64#32
  let c0_458 : Index := 0#32
  ![v1609.toNat, 64, 0]

def k0_off135 (v1607 : BitVec 32) : Fin 3 → Nat :=
  let v1612 : Index := Scalar.indexCast v1607
  let c0_459 : Index := 0#32
  let c0_460 : Index := 0#32
  ![v1612.toNat, 0, 0]

def k0_chk26 (v1607 : BitVec 32) : Prop :=
  (∀ a, (k0_off134 v1607) a + S1x64x128.size a ≤ S128x128x128.size a) ∧
  (∀ a, (k0_off135 v1607) a + S1x64x128.size a ≤ S128x128x128.size a)
theorem k0_off134_inb : ∀ (v1607 : BitVec 32) (k0_hw26 : k0_chk26 v1607), ∀ a, (k0_off134 v1607) a + S1x64x128.size a ≤ S128x128x128.size a := fun v1607 k0_hw26 => k0_hw26.1
theorem k0_off135_inb : ∀ (v1607 : BitVec 32) (k0_hw26 : k0_chk26 v1607), ∀ a, (k0_off135 v1607) a + S1x64x128.size a ≤ S128x128x128.size a := fun v1607 k0_hw26 => k0_hw26.2

def k0_off136 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_461 : BitVec 32 := 16#32
  let v1621 : BitVec 32 := Scalar.addi v613 c16_i32_461
  let c10_i32_462 : BitVec 32 := 10#32
  let v1622 : BitVec 32 := Scalar.addi v1621 c10_i32_462
  let v1623 : Index := Scalar.indexCast v1622
  ![v1623.toNat]
def k0_off137 (v1624 : BitVec 32) : Fin 3 → Nat :=
  let v1626 : Index := Scalar.indexCast v1624
  let c64_463 : Index := 64#32
  let c0_464 : Index := 0#32
  ![v1626.toNat, 64, 0]

def k0_off138 (v1624 : BitVec 32) : Fin 3 → Nat :=
  let v1629 : Index := Scalar.indexCast v1624
  let c0_465 : Index := 0#32
  let c0_466 : Index := 0#32
  ![v1629.toNat, 0, 0]

def k0_chk27 (v1624 : BitVec 32) : Prop :=
  (∀ a, (k0_off137 v1624) a + S1x64x128.size a ≤ S128x128x128.size a) ∧
  (∀ a, (k0_off138 v1624) a + S1x64x128.size a ≤ S128x128x128.size a)
theorem k0_off137_inb : ∀ (v1624 : BitVec 32) (k0_hw27 : k0_chk27 v1624), ∀ a, (k0_off137 v1624) a + S1x64x128.size a ≤ S128x128x128.size a := fun v1624 k0_hw27 => k0_hw27.1
theorem k0_off138_inb : ∀ (v1624 : BitVec 32) (k0_hw27 : k0_chk27 v1624), ∀ a, (k0_off138 v1624) a + S1x64x128.size a ≤ S128x128x128.size a := fun v1624 k0_hw27 => k0_hw27.2

def k0_off139 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_467 : BitVec 32 := 16#32
  let v1638 : BitVec 32 := Scalar.addi v613 c16_i32_467
  let c11_i32_468 : BitVec 32 := 11#32
  let v1639 : BitVec 32 := Scalar.addi v1638 c11_i32_468
  let v1640 : Index := Scalar.indexCast v1639
  ![v1640.toNat]
def k0_off140 (v1641 : BitVec 32) : Fin 3 → Nat :=
  let v1643 : Index := Scalar.indexCast v1641
  let c64_469 : Index := 64#32
  let c0_470 : Index := 0#32
  ![v1643.toNat, 64, 0]

def k0_off141 (v1641 : BitVec 32) : Fin 3 → Nat :=
  let v1646 : Index := Scalar.indexCast v1641
  let c0_471 : Index := 0#32
  let c0_472 : Index := 0#32
  ![v1646.toNat, 0, 0]

def k0_chk28 (v1641 : BitVec 32) : Prop :=
  (∀ a, (k0_off140 v1641) a + S1x64x128.size a ≤ S128x128x128.size a) ∧
  (∀ a, (k0_off141 v1641) a + S1x64x128.size a ≤ S128x128x128.size a)
theorem k0_off140_inb : ∀ (v1641 : BitVec 32) (k0_hw28 : k0_chk28 v1641), ∀ a, (k0_off140 v1641) a + S1x64x128.size a ≤ S128x128x128.size a := fun v1641 k0_hw28 => k0_hw28.1
theorem k0_off141_inb : ∀ (v1641 : BitVec 32) (k0_hw28 : k0_chk28 v1641), ∀ a, (k0_off141 v1641) a + S1x64x128.size a ≤ S128x128x128.size a := fun v1641 k0_hw28 => k0_hw28.2

def k0_off142 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_473 : BitVec 32 := 16#32
  let v1655 : BitVec 32 := Scalar.addi v613 c16_i32_473
  let c12_i32_474 : BitVec 32 := 12#32
  let v1656 : BitVec 32 := Scalar.addi v1655 c12_i32_474
  let v1657 : Index := Scalar.indexCast v1656
  ![v1657.toNat]
def k0_off143 (v1658 : BitVec 32) : Fin 3 → Nat :=
  let v1660 : Index := Scalar.indexCast v1658
  let c64_475 : Index := 64#32
  let c0_476 : Index := 0#32
  ![v1660.toNat, 64, 0]

def k0_off144 (v1658 : BitVec 32) : Fin 3 → Nat :=
  let v1663 : Index := Scalar.indexCast v1658
  let c0_477 : Index := 0#32
  let c0_478 : Index := 0#32
  ![v1663.toNat, 0, 0]

def k0_chk29 (v1658 : BitVec 32) : Prop :=
  (∀ a, (k0_off143 v1658) a + S1x64x128.size a ≤ S128x128x128.size a) ∧
  (∀ a, (k0_off144 v1658) a + S1x64x128.size a ≤ S128x128x128.size a)
theorem k0_off143_inb : ∀ (v1658 : BitVec 32) (k0_hw29 : k0_chk29 v1658), ∀ a, (k0_off143 v1658) a + S1x64x128.size a ≤ S128x128x128.size a := fun v1658 k0_hw29 => k0_hw29.1
theorem k0_off144_inb : ∀ (v1658 : BitVec 32) (k0_hw29 : k0_chk29 v1658), ∀ a, (k0_off144 v1658) a + S1x64x128.size a ≤ S128x128x128.size a := fun v1658 k0_hw29 => k0_hw29.2

def k0_off145 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_479 : BitVec 32 := 16#32
  let v1672 : BitVec 32 := Scalar.addi v613 c16_i32_479
  let c13_i32_480 : BitVec 32 := 13#32
  let v1673 : BitVec 32 := Scalar.addi v1672 c13_i32_480
  let v1674 : Index := Scalar.indexCast v1673
  ![v1674.toNat]
def k0_off146 (v1675 : BitVec 32) : Fin 3 → Nat :=
  let v1677 : Index := Scalar.indexCast v1675
  let c64_481 : Index := 64#32
  let c0_482 : Index := 0#32
  ![v1677.toNat, 64, 0]

def k0_off147 (v1675 : BitVec 32) : Fin 3 → Nat :=
  let v1680 : Index := Scalar.indexCast v1675
  let c0_483 : Index := 0#32
  let c0_484 : Index := 0#32
  ![v1680.toNat, 0, 0]

def k0_chk30 (v1675 : BitVec 32) : Prop :=
  (∀ a, (k0_off146 v1675) a + S1x64x128.size a ≤ S128x128x128.size a) ∧
  (∀ a, (k0_off147 v1675) a + S1x64x128.size a ≤ S128x128x128.size a)
theorem k0_off146_inb : ∀ (v1675 : BitVec 32) (k0_hw30 : k0_chk30 v1675), ∀ a, (k0_off146 v1675) a + S1x64x128.size a ≤ S128x128x128.size a := fun v1675 k0_hw30 => k0_hw30.1
theorem k0_off147_inb : ∀ (v1675 : BitVec 32) (k0_hw30 : k0_chk30 v1675), ∀ a, (k0_off147 v1675) a + S1x64x128.size a ≤ S128x128x128.size a := fun v1675 k0_hw30 => k0_hw30.2

def k0_off148 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_485 : BitVec 32 := 16#32
  let v1689 : BitVec 32 := Scalar.addi v613 c16_i32_485
  let c14_i32_486 : BitVec 32 := 14#32
  let v1690 : BitVec 32 := Scalar.addi v1689 c14_i32_486
  let v1691 : Index := Scalar.indexCast v1690
  ![v1691.toNat]
def k0_off149 (v1692 : BitVec 32) : Fin 3 → Nat :=
  let v1694 : Index := Scalar.indexCast v1692
  let c64_487 : Index := 64#32
  let c0_488 : Index := 0#32
  ![v1694.toNat, 64, 0]

def k0_off150 (v1692 : BitVec 32) : Fin 3 → Nat :=
  let v1697 : Index := Scalar.indexCast v1692
  let c0_489 : Index := 0#32
  let c0_490 : Index := 0#32
  ![v1697.toNat, 0, 0]

def k0_chk31 (v1692 : BitVec 32) : Prop :=
  (∀ a, (k0_off149 v1692) a + S1x64x128.size a ≤ S128x128x128.size a) ∧
  (∀ a, (k0_off150 v1692) a + S1x64x128.size a ≤ S128x128x128.size a)
theorem k0_off149_inb : ∀ (v1692 : BitVec 32) (k0_hw31 : k0_chk31 v1692), ∀ a, (k0_off149 v1692) a + S1x64x128.size a ≤ S128x128x128.size a := fun v1692 k0_hw31 => k0_hw31.1
theorem k0_off150_inb : ∀ (v1692 : BitVec 32) (k0_hw31 : k0_chk31 v1692), ∀ a, (k0_off150 v1692) a + S1x64x128.size a ≤ S128x128x128.size a := fun v1692 k0_hw31 => k0_hw31.2

def k0_off151 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c16_i32_491 : BitVec 32 := 16#32
  let v1706 : BitVec 32 := Scalar.addi v613 c16_i32_491
  let c15_i32_492 : BitVec 32 := 15#32
  let v1707 : BitVec 32 := Scalar.addi v1706 c15_i32_492
  let v1708 : Index := Scalar.indexCast v1707
  ![v1708.toNat]
def k0_off152 (v1709 : BitVec 32) : Fin 3 → Nat :=
  let v1711 : Index := Scalar.indexCast v1709
  let c64_493 : Index := 64#32
  let c0_494 : Index := 0#32
  ![v1711.toNat, 64, 0]

def k0_off153 (v1709 : BitVec 32) : Fin 3 → Nat :=
  let v1714 : Index := Scalar.indexCast v1709
  let c0_495 : Index := 0#32
  let c0_496 : Index := 0#32
  ![v1714.toNat, 0, 0]

def k0_chk32 (v1709 : BitVec 32) : Prop :=
  (∀ a, (k0_off152 v1709) a + S1x64x128.size a ≤ S128x128x128.size a) ∧
  (∀ a, (k0_off153 v1709) a + S1x64x128.size a ≤ S128x128x128.size a)
theorem k0_off152_inb : ∀ (v1709 : BitVec 32) (k0_hw32 : k0_chk32 v1709), ∀ a, (k0_off152 v1709) a + S1x64x128.size a ≤ S128x128x128.size a := fun v1709 k0_hw32 => k0_hw32.1
theorem k0_off153_inb : ∀ (v1709 : BitVec 32) (k0_hw32 : k0_chk32 v1709), ∀ a, (k0_off153 v1709) a + S1x64x128.size a ≤ S128x128x128.size a := fun v1709 k0_hw32 => k0_hw32.2

def k0_off154 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_581 : BitVec 32 := 32#32
  let v2067 : BitVec 32 := Scalar.addi v613 c32_i32_581
  let c0_i32_582 : BitVec 32 := 0#32
  let v2068 : BitVec 32 := Scalar.addi v2067 c0_i32_582
  let v2069 : Index := Scalar.indexCast v2068
  ![v2069.toNat]
def k0_off155 (v2070 : BitVec 32) : Fin 3 → Nat :=
  let v2072 : Index := Scalar.indexCast v2070
  let c64_583 : Index := 64#32
  let c0_584 : Index := 0#32
  ![v2072.toNat, 64, 0]

def k0_off156 (v2070 : BitVec 32) : Fin 3 → Nat :=
  let v2075 : Index := Scalar.indexCast v2070
  let c0_585 : Index := 0#32
  let c0_586 : Index := 0#32
  ![v2075.toNat, 0, 0]

def k0_chk33 (v2070 : BitVec 32) : Prop :=
  (∀ a, (k0_off155 v2070) a + S1x64x128.size a ≤ S128x128x128.size a) ∧
  (∀ a, (k0_off156 v2070) a + S1x64x128.size a ≤ S128x128x128.size a)
theorem k0_off155_inb : ∀ (v2070 : BitVec 32) (k0_hw33 : k0_chk33 v2070), ∀ a, (k0_off155 v2070) a + S1x64x128.size a ≤ S128x128x128.size a := fun v2070 k0_hw33 => k0_hw33.1
theorem k0_off156_inb : ∀ (v2070 : BitVec 32) (k0_hw33 : k0_chk33 v2070), ∀ a, (k0_off156 v2070) a + S1x64x128.size a ≤ S128x128x128.size a := fun v2070 k0_hw33 => k0_hw33.2

def k0_off157 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_587 : BitVec 32 := 32#32
  let v2084 : BitVec 32 := Scalar.addi v613 c32_i32_587
  let c1_i32_588 : BitVec 32 := 1#32
  let v2085 : BitVec 32 := Scalar.addi v2084 c1_i32_588
  let v2086 : Index := Scalar.indexCast v2085
  ![v2086.toNat]
def k0_off158 (v2087 : BitVec 32) : Fin 3 → Nat :=
  let v2089 : Index := Scalar.indexCast v2087
  let c64_589 : Index := 64#32
  let c0_590 : Index := 0#32
  ![v2089.toNat, 64, 0]

def k0_off159 (v2087 : BitVec 32) : Fin 3 → Nat :=
  let v2092 : Index := Scalar.indexCast v2087
  let c0_591 : Index := 0#32
  let c0_592 : Index := 0#32
  ![v2092.toNat, 0, 0]

def k0_chk34 (v2087 : BitVec 32) : Prop :=
  (∀ a, (k0_off158 v2087) a + S1x64x128.size a ≤ S128x128x128.size a) ∧
  (∀ a, (k0_off159 v2087) a + S1x64x128.size a ≤ S128x128x128.size a)
theorem k0_off158_inb : ∀ (v2087 : BitVec 32) (k0_hw34 : k0_chk34 v2087), ∀ a, (k0_off158 v2087) a + S1x64x128.size a ≤ S128x128x128.size a := fun v2087 k0_hw34 => k0_hw34.1
theorem k0_off159_inb : ∀ (v2087 : BitVec 32) (k0_hw34 : k0_chk34 v2087), ∀ a, (k0_off159 v2087) a + S1x64x128.size a ≤ S128x128x128.size a := fun v2087 k0_hw34 => k0_hw34.2

def k0_off160 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_593 : BitVec 32 := 32#32
  let v2101 : BitVec 32 := Scalar.addi v613 c32_i32_593
  let c2_i32_594 : BitVec 32 := 2#32
  let v2102 : BitVec 32 := Scalar.addi v2101 c2_i32_594
  let v2103 : Index := Scalar.indexCast v2102
  ![v2103.toNat]
def k0_off161 (v2104 : BitVec 32) : Fin 3 → Nat :=
  let v2106 : Index := Scalar.indexCast v2104
  let c64_595 : Index := 64#32
  let c0_596 : Index := 0#32
  ![v2106.toNat, 64, 0]

def k0_off162 (v2104 : BitVec 32) : Fin 3 → Nat :=
  let v2109 : Index := Scalar.indexCast v2104
  let c0_597 : Index := 0#32
  let c0_598 : Index := 0#32
  ![v2109.toNat, 0, 0]

def k0_chk35 (v2104 : BitVec 32) : Prop :=
  (∀ a, (k0_off161 v2104) a + S1x64x128.size a ≤ S128x128x128.size a) ∧
  (∀ a, (k0_off162 v2104) a + S1x64x128.size a ≤ S128x128x128.size a)
theorem k0_off161_inb : ∀ (v2104 : BitVec 32) (k0_hw35 : k0_chk35 v2104), ∀ a, (k0_off161 v2104) a + S1x64x128.size a ≤ S128x128x128.size a := fun v2104 k0_hw35 => k0_hw35.1
theorem k0_off162_inb : ∀ (v2104 : BitVec 32) (k0_hw35 : k0_chk35 v2104), ∀ a, (k0_off162 v2104) a + S1x64x128.size a ≤ S128x128x128.size a := fun v2104 k0_hw35 => k0_hw35.2

def k0_off163 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_599 : BitVec 32 := 32#32
  let v2118 : BitVec 32 := Scalar.addi v613 c32_i32_599
  let c3_i32_600 : BitVec 32 := 3#32
  let v2119 : BitVec 32 := Scalar.addi v2118 c3_i32_600
  let v2120 : Index := Scalar.indexCast v2119
  ![v2120.toNat]
def k0_off164 (v2121 : BitVec 32) : Fin 3 → Nat :=
  let v2123 : Index := Scalar.indexCast v2121
  let c64_601 : Index := 64#32
  let c0_602 : Index := 0#32
  ![v2123.toNat, 64, 0]

def k0_off165 (v2121 : BitVec 32) : Fin 3 → Nat :=
  let v2126 : Index := Scalar.indexCast v2121
  let c0_603 : Index := 0#32
  let c0_604 : Index := 0#32
  ![v2126.toNat, 0, 0]

def k0_chk36 (v2121 : BitVec 32) : Prop :=
  (∀ a, (k0_off164 v2121) a + S1x64x128.size a ≤ S128x128x128.size a) ∧
  (∀ a, (k0_off165 v2121) a + S1x64x128.size a ≤ S128x128x128.size a)
theorem k0_off164_inb : ∀ (v2121 : BitVec 32) (k0_hw36 : k0_chk36 v2121), ∀ a, (k0_off164 v2121) a + S1x64x128.size a ≤ S128x128x128.size a := fun v2121 k0_hw36 => k0_hw36.1
theorem k0_off165_inb : ∀ (v2121 : BitVec 32) (k0_hw36 : k0_chk36 v2121), ∀ a, (k0_off165 v2121) a + S1x64x128.size a ≤ S128x128x128.size a := fun v2121 k0_hw36 => k0_hw36.2

def k0_off166 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_605 : BitVec 32 := 32#32
  let v2135 : BitVec 32 := Scalar.addi v613 c32_i32_605
  let c4_i32_606 : BitVec 32 := 4#32
  let v2136 : BitVec 32 := Scalar.addi v2135 c4_i32_606
  let v2137 : Index := Scalar.indexCast v2136
  ![v2137.toNat]
def k0_off167 (v2138 : BitVec 32) : Fin 3 → Nat :=
  let v2140 : Index := Scalar.indexCast v2138
  let c64_607 : Index := 64#32
  let c0_608 : Index := 0#32
  ![v2140.toNat, 64, 0]

def k0_off168 (v2138 : BitVec 32) : Fin 3 → Nat :=
  let v2143 : Index := Scalar.indexCast v2138
  let c0_609 : Index := 0#32
  let c0_610 : Index := 0#32
  ![v2143.toNat, 0, 0]

def k0_chk37 (v2138 : BitVec 32) : Prop :=
  (∀ a, (k0_off167 v2138) a + S1x64x128.size a ≤ S128x128x128.size a) ∧
  (∀ a, (k0_off168 v2138) a + S1x64x128.size a ≤ S128x128x128.size a)
theorem k0_off167_inb : ∀ (v2138 : BitVec 32) (k0_hw37 : k0_chk37 v2138), ∀ a, (k0_off167 v2138) a + S1x64x128.size a ≤ S128x128x128.size a := fun v2138 k0_hw37 => k0_hw37.1
theorem k0_off168_inb : ∀ (v2138 : BitVec 32) (k0_hw37 : k0_chk37 v2138), ∀ a, (k0_off168 v2138) a + S1x64x128.size a ≤ S128x128x128.size a := fun v2138 k0_hw37 => k0_hw37.2

def k0_off169 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_611 : BitVec 32 := 32#32
  let v2152 : BitVec 32 := Scalar.addi v613 c32_i32_611
  let c5_i32_612 : BitVec 32 := 5#32
  let v2153 : BitVec 32 := Scalar.addi v2152 c5_i32_612
  let v2154 : Index := Scalar.indexCast v2153
  ![v2154.toNat]
def k0_off170 (v2155 : BitVec 32) : Fin 3 → Nat :=
  let v2157 : Index := Scalar.indexCast v2155
  let c64_613 : Index := 64#32
  let c0_614 : Index := 0#32
  ![v2157.toNat, 64, 0]

def k0_off171 (v2155 : BitVec 32) : Fin 3 → Nat :=
  let v2160 : Index := Scalar.indexCast v2155
  let c0_615 : Index := 0#32
  let c0_616 : Index := 0#32
  ![v2160.toNat, 0, 0]

def k0_chk38 (v2155 : BitVec 32) : Prop :=
  (∀ a, (k0_off170 v2155) a + S1x64x128.size a ≤ S128x128x128.size a) ∧
  (∀ a, (k0_off171 v2155) a + S1x64x128.size a ≤ S128x128x128.size a)
theorem k0_off170_inb : ∀ (v2155 : BitVec 32) (k0_hw38 : k0_chk38 v2155), ∀ a, (k0_off170 v2155) a + S1x64x128.size a ≤ S128x128x128.size a := fun v2155 k0_hw38 => k0_hw38.1
theorem k0_off171_inb : ∀ (v2155 : BitVec 32) (k0_hw38 : k0_chk38 v2155), ∀ a, (k0_off171 v2155) a + S1x64x128.size a ≤ S128x128x128.size a := fun v2155 k0_hw38 => k0_hw38.2

def k0_off172 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_617 : BitVec 32 := 32#32
  let v2169 : BitVec 32 := Scalar.addi v613 c32_i32_617
  let c6_i32_618 : BitVec 32 := 6#32
  let v2170 : BitVec 32 := Scalar.addi v2169 c6_i32_618
  let v2171 : Index := Scalar.indexCast v2170
  ![v2171.toNat]
def k0_off173 (v2172 : BitVec 32) : Fin 3 → Nat :=
  let v2174 : Index := Scalar.indexCast v2172
  let c64_619 : Index := 64#32
  let c0_620 : Index := 0#32
  ![v2174.toNat, 64, 0]

def k0_off174 (v2172 : BitVec 32) : Fin 3 → Nat :=
  let v2177 : Index := Scalar.indexCast v2172
  let c0_621 : Index := 0#32
  let c0_622 : Index := 0#32
  ![v2177.toNat, 0, 0]

def k0_chk39 (v2172 : BitVec 32) : Prop :=
  (∀ a, (k0_off173 v2172) a + S1x64x128.size a ≤ S128x128x128.size a) ∧
  (∀ a, (k0_off174 v2172) a + S1x64x128.size a ≤ S128x128x128.size a)
theorem k0_off173_inb : ∀ (v2172 : BitVec 32) (k0_hw39 : k0_chk39 v2172), ∀ a, (k0_off173 v2172) a + S1x64x128.size a ≤ S128x128x128.size a := fun v2172 k0_hw39 => k0_hw39.1
theorem k0_off174_inb : ∀ (v2172 : BitVec 32) (k0_hw39 : k0_chk39 v2172), ∀ a, (k0_off174 v2172) a + S1x64x128.size a ≤ S128x128x128.size a := fun v2172 k0_hw39 => k0_hw39.2

def k0_off175 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_623 : BitVec 32 := 32#32
  let v2186 : BitVec 32 := Scalar.addi v613 c32_i32_623
  let c7_i32_624 : BitVec 32 := 7#32
  let v2187 : BitVec 32 := Scalar.addi v2186 c7_i32_624
  let v2188 : Index := Scalar.indexCast v2187
  ![v2188.toNat]
def k0_off176 (v2189 : BitVec 32) : Fin 3 → Nat :=
  let v2191 : Index := Scalar.indexCast v2189
  let c64_625 : Index := 64#32
  let c0_626 : Index := 0#32
  ![v2191.toNat, 64, 0]

def k0_off177 (v2189 : BitVec 32) : Fin 3 → Nat :=
  let v2194 : Index := Scalar.indexCast v2189
  let c0_627 : Index := 0#32
  let c0_628 : Index := 0#32
  ![v2194.toNat, 0, 0]

def k0_chk40 (v2189 : BitVec 32) : Prop :=
  (∀ a, (k0_off176 v2189) a + S1x64x128.size a ≤ S128x128x128.size a) ∧
  (∀ a, (k0_off177 v2189) a + S1x64x128.size a ≤ S128x128x128.size a)
theorem k0_off176_inb : ∀ (v2189 : BitVec 32) (k0_hw40 : k0_chk40 v2189), ∀ a, (k0_off176 v2189) a + S1x64x128.size a ≤ S128x128x128.size a := fun v2189 k0_hw40 => k0_hw40.1
theorem k0_off177_inb : ∀ (v2189 : BitVec 32) (k0_hw40 : k0_chk40 v2189), ∀ a, (k0_off177 v2189) a + S1x64x128.size a ≤ S128x128x128.size a := fun v2189 k0_hw40 => k0_hw40.2

def k0_off178 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_629 : BitVec 32 := 32#32
  let v2203 : BitVec 32 := Scalar.addi v613 c32_i32_629
  let c8_i32_630 : BitVec 32 := 8#32
  let v2204 : BitVec 32 := Scalar.addi v2203 c8_i32_630
  let v2205 : Index := Scalar.indexCast v2204
  ![v2205.toNat]
def k0_off179 (v2206 : BitVec 32) : Fin 3 → Nat :=
  let v2208 : Index := Scalar.indexCast v2206
  let c64_631 : Index := 64#32
  let c0_632 : Index := 0#32
  ![v2208.toNat, 64, 0]

def k0_off180 (v2206 : BitVec 32) : Fin 3 → Nat :=
  let v2211 : Index := Scalar.indexCast v2206
  let c0_633 : Index := 0#32
  let c0_634 : Index := 0#32
  ![v2211.toNat, 0, 0]

def k0_chk41 (v2206 : BitVec 32) : Prop :=
  (∀ a, (k0_off179 v2206) a + S1x64x128.size a ≤ S128x128x128.size a) ∧
  (∀ a, (k0_off180 v2206) a + S1x64x128.size a ≤ S128x128x128.size a)
theorem k0_off179_inb : ∀ (v2206 : BitVec 32) (k0_hw41 : k0_chk41 v2206), ∀ a, (k0_off179 v2206) a + S1x64x128.size a ≤ S128x128x128.size a := fun v2206 k0_hw41 => k0_hw41.1
theorem k0_off180_inb : ∀ (v2206 : BitVec 32) (k0_hw41 : k0_chk41 v2206), ∀ a, (k0_off180 v2206) a + S1x64x128.size a ≤ S128x128x128.size a := fun v2206 k0_hw41 => k0_hw41.2

def k0_off181 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_635 : BitVec 32 := 32#32
  let v2220 : BitVec 32 := Scalar.addi v613 c32_i32_635
  let c9_i32_636 : BitVec 32 := 9#32
  let v2221 : BitVec 32 := Scalar.addi v2220 c9_i32_636
  let v2222 : Index := Scalar.indexCast v2221
  ![v2222.toNat]
def k0_off182 (v2223 : BitVec 32) : Fin 3 → Nat :=
  let v2225 : Index := Scalar.indexCast v2223
  let c64_637 : Index := 64#32
  let c0_638 : Index := 0#32
  ![v2225.toNat, 64, 0]

def k0_off183 (v2223 : BitVec 32) : Fin 3 → Nat :=
  let v2228 : Index := Scalar.indexCast v2223
  let c0_639 : Index := 0#32
  let c0_640 : Index := 0#32
  ![v2228.toNat, 0, 0]

def k0_chk42 (v2223 : BitVec 32) : Prop :=
  (∀ a, (k0_off182 v2223) a + S1x64x128.size a ≤ S128x128x128.size a) ∧
  (∀ a, (k0_off183 v2223) a + S1x64x128.size a ≤ S128x128x128.size a)
theorem k0_off182_inb : ∀ (v2223 : BitVec 32) (k0_hw42 : k0_chk42 v2223), ∀ a, (k0_off182 v2223) a + S1x64x128.size a ≤ S128x128x128.size a := fun v2223 k0_hw42 => k0_hw42.1
theorem k0_off183_inb : ∀ (v2223 : BitVec 32) (k0_hw42 : k0_chk42 v2223), ∀ a, (k0_off183 v2223) a + S1x64x128.size a ≤ S128x128x128.size a := fun v2223 k0_hw42 => k0_hw42.2

def k0_off184 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_641 : BitVec 32 := 32#32
  let v2237 : BitVec 32 := Scalar.addi v613 c32_i32_641
  let c10_i32_642 : BitVec 32 := 10#32
  let v2238 : BitVec 32 := Scalar.addi v2237 c10_i32_642
  let v2239 : Index := Scalar.indexCast v2238
  ![v2239.toNat]
def k0_off185 (v2240 : BitVec 32) : Fin 3 → Nat :=
  let v2242 : Index := Scalar.indexCast v2240
  let c64_643 : Index := 64#32
  let c0_644 : Index := 0#32
  ![v2242.toNat, 64, 0]

def k0_off186 (v2240 : BitVec 32) : Fin 3 → Nat :=
  let v2245 : Index := Scalar.indexCast v2240
  let c0_645 : Index := 0#32
  let c0_646 : Index := 0#32
  ![v2245.toNat, 0, 0]

def k0_chk43 (v2240 : BitVec 32) : Prop :=
  (∀ a, (k0_off185 v2240) a + S1x64x128.size a ≤ S128x128x128.size a) ∧
  (∀ a, (k0_off186 v2240) a + S1x64x128.size a ≤ S128x128x128.size a)
theorem k0_off185_inb : ∀ (v2240 : BitVec 32) (k0_hw43 : k0_chk43 v2240), ∀ a, (k0_off185 v2240) a + S1x64x128.size a ≤ S128x128x128.size a := fun v2240 k0_hw43 => k0_hw43.1
theorem k0_off186_inb : ∀ (v2240 : BitVec 32) (k0_hw43 : k0_chk43 v2240), ∀ a, (k0_off186 v2240) a + S1x64x128.size a ≤ S128x128x128.size a := fun v2240 k0_hw43 => k0_hw43.2

def k0_off187 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_647 : BitVec 32 := 32#32
  let v2254 : BitVec 32 := Scalar.addi v613 c32_i32_647
  let c11_i32_648 : BitVec 32 := 11#32
  let v2255 : BitVec 32 := Scalar.addi v2254 c11_i32_648
  let v2256 : Index := Scalar.indexCast v2255
  ![v2256.toNat]
def k0_off188 (v2257 : BitVec 32) : Fin 3 → Nat :=
  let v2259 : Index := Scalar.indexCast v2257
  let c64_649 : Index := 64#32
  let c0_650 : Index := 0#32
  ![v2259.toNat, 64, 0]

def k0_off189 (v2257 : BitVec 32) : Fin 3 → Nat :=
  let v2262 : Index := Scalar.indexCast v2257
  let c0_651 : Index := 0#32
  let c0_652 : Index := 0#32
  ![v2262.toNat, 0, 0]

def k0_chk44 (v2257 : BitVec 32) : Prop :=
  (∀ a, (k0_off188 v2257) a + S1x64x128.size a ≤ S128x128x128.size a) ∧
  (∀ a, (k0_off189 v2257) a + S1x64x128.size a ≤ S128x128x128.size a)
theorem k0_off188_inb : ∀ (v2257 : BitVec 32) (k0_hw44 : k0_chk44 v2257), ∀ a, (k0_off188 v2257) a + S1x64x128.size a ≤ S128x128x128.size a := fun v2257 k0_hw44 => k0_hw44.1
theorem k0_off189_inb : ∀ (v2257 : BitVec 32) (k0_hw44 : k0_chk44 v2257), ∀ a, (k0_off189 v2257) a + S1x64x128.size a ≤ S128x128x128.size a := fun v2257 k0_hw44 => k0_hw44.2

def k0_off190 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_653 : BitVec 32 := 32#32
  let v2271 : BitVec 32 := Scalar.addi v613 c32_i32_653
  let c12_i32_654 : BitVec 32 := 12#32
  let v2272 : BitVec 32 := Scalar.addi v2271 c12_i32_654
  let v2273 : Index := Scalar.indexCast v2272
  ![v2273.toNat]
def k0_off191 (v2274 : BitVec 32) : Fin 3 → Nat :=
  let v2276 : Index := Scalar.indexCast v2274
  let c64_655 : Index := 64#32
  let c0_656 : Index := 0#32
  ![v2276.toNat, 64, 0]

def k0_off192 (v2274 : BitVec 32) : Fin 3 → Nat :=
  let v2279 : Index := Scalar.indexCast v2274
  let c0_657 : Index := 0#32
  let c0_658 : Index := 0#32
  ![v2279.toNat, 0, 0]

def k0_chk45 (v2274 : BitVec 32) : Prop :=
  (∀ a, (k0_off191 v2274) a + S1x64x128.size a ≤ S128x128x128.size a) ∧
  (∀ a, (k0_off192 v2274) a + S1x64x128.size a ≤ S128x128x128.size a)
theorem k0_off191_inb : ∀ (v2274 : BitVec 32) (k0_hw45 : k0_chk45 v2274), ∀ a, (k0_off191 v2274) a + S1x64x128.size a ≤ S128x128x128.size a := fun v2274 k0_hw45 => k0_hw45.1
theorem k0_off192_inb : ∀ (v2274 : BitVec 32) (k0_hw45 : k0_chk45 v2274), ∀ a, (k0_off192 v2274) a + S1x64x128.size a ≤ S128x128x128.size a := fun v2274 k0_hw45 => k0_hw45.2

def k0_off193 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_659 : BitVec 32 := 32#32
  let v2288 : BitVec 32 := Scalar.addi v613 c32_i32_659
  let c13_i32_660 : BitVec 32 := 13#32
  let v2289 : BitVec 32 := Scalar.addi v2288 c13_i32_660
  let v2290 : Index := Scalar.indexCast v2289
  ![v2290.toNat]
def k0_off194 (v2291 : BitVec 32) : Fin 3 → Nat :=
  let v2293 : Index := Scalar.indexCast v2291
  let c64_661 : Index := 64#32
  let c0_662 : Index := 0#32
  ![v2293.toNat, 64, 0]

def k0_off195 (v2291 : BitVec 32) : Fin 3 → Nat :=
  let v2296 : Index := Scalar.indexCast v2291
  let c0_663 : Index := 0#32
  let c0_664 : Index := 0#32
  ![v2296.toNat, 0, 0]

def k0_chk46 (v2291 : BitVec 32) : Prop :=
  (∀ a, (k0_off194 v2291) a + S1x64x128.size a ≤ S128x128x128.size a) ∧
  (∀ a, (k0_off195 v2291) a + S1x64x128.size a ≤ S128x128x128.size a)
theorem k0_off194_inb : ∀ (v2291 : BitVec 32) (k0_hw46 : k0_chk46 v2291), ∀ a, (k0_off194 v2291) a + S1x64x128.size a ≤ S128x128x128.size a := fun v2291 k0_hw46 => k0_hw46.1
theorem k0_off195_inb : ∀ (v2291 : BitVec 32) (k0_hw46 : k0_chk46 v2291), ∀ a, (k0_off195 v2291) a + S1x64x128.size a ≤ S128x128x128.size a := fun v2291 k0_hw46 => k0_hw46.2

def k0_off196 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_665 : BitVec 32 := 32#32
  let v2305 : BitVec 32 := Scalar.addi v613 c32_i32_665
  let c14_i32_666 : BitVec 32 := 14#32
  let v2306 : BitVec 32 := Scalar.addi v2305 c14_i32_666
  let v2307 : Index := Scalar.indexCast v2306
  ![v2307.toNat]
def k0_off197 (v2308 : BitVec 32) : Fin 3 → Nat :=
  let v2310 : Index := Scalar.indexCast v2308
  let c64_667 : Index := 64#32
  let c0_668 : Index := 0#32
  ![v2310.toNat, 64, 0]

def k0_off198 (v2308 : BitVec 32) : Fin 3 → Nat :=
  let v2313 : Index := Scalar.indexCast v2308
  let c0_669 : Index := 0#32
  let c0_670 : Index := 0#32
  ![v2313.toNat, 0, 0]

def k0_chk47 (v2308 : BitVec 32) : Prop :=
  (∀ a, (k0_off197 v2308) a + S1x64x128.size a ≤ S128x128x128.size a) ∧
  (∀ a, (k0_off198 v2308) a + S1x64x128.size a ≤ S128x128x128.size a)
theorem k0_off197_inb : ∀ (v2308 : BitVec 32) (k0_hw47 : k0_chk47 v2308), ∀ a, (k0_off197 v2308) a + S1x64x128.size a ≤ S128x128x128.size a := fun v2308 k0_hw47 => k0_hw47.1
theorem k0_off198_inb : ∀ (v2308 : BitVec 32) (k0_hw47 : k0_chk47 v2308), ∀ a, (k0_off198 v2308) a + S1x64x128.size a ≤ S128x128x128.size a := fun v2308 k0_hw47 => k0_hw47.2

def k0_off199 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c32_i32_671 : BitVec 32 := 32#32
  let v2322 : BitVec 32 := Scalar.addi v613 c32_i32_671
  let c15_i32_672 : BitVec 32 := 15#32
  let v2323 : BitVec 32 := Scalar.addi v2322 c15_i32_672
  let v2324 : Index := Scalar.indexCast v2323
  ![v2324.toNat]
def k0_off200 (v2325 : BitVec 32) : Fin 3 → Nat :=
  let v2327 : Index := Scalar.indexCast v2325
  let c64_673 : Index := 64#32
  let c0_674 : Index := 0#32
  ![v2327.toNat, 64, 0]

def k0_off201 (v2325 : BitVec 32) : Fin 3 → Nat :=
  let v2330 : Index := Scalar.indexCast v2325
  let c0_675 : Index := 0#32
  let c0_676 : Index := 0#32
  ![v2330.toNat, 0, 0]

def k0_chk48 (v2325 : BitVec 32) : Prop :=
  (∀ a, (k0_off200 v2325) a + S1x64x128.size a ≤ S128x128x128.size a) ∧
  (∀ a, (k0_off201 v2325) a + S1x64x128.size a ≤ S128x128x128.size a)
theorem k0_off200_inb : ∀ (v2325 : BitVec 32) (k0_hw48 : k0_chk48 v2325), ∀ a, (k0_off200 v2325) a + S1x64x128.size a ≤ S128x128x128.size a := fun v2325 k0_hw48 => k0_hw48.1
theorem k0_off201_inb : ∀ (v2325 : BitVec 32) (k0_hw48 : k0_chk48 v2325), ∀ a, (k0_off201 v2325) a + S1x64x128.size a ≤ S128x128x128.size a := fun v2325 k0_hw48 => k0_hw48.2

def k0_off202 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32 : BitVec 32 := 48#32
  let v2683 : BitVec 32 := Scalar.addi v613 c48_i32
  let c0_i32_761 : BitVec 32 := 0#32
  let v2684 : BitVec 32 := Scalar.addi v2683 c0_i32_761
  let v2685 : Index := Scalar.indexCast v2684
  ![v2685.toNat]
def k0_off203 (v2686 : BitVec 32) : Fin 3 → Nat :=
  let v2688 : Index := Scalar.indexCast v2686
  let c64_762 : Index := 64#32
  let c0_763 : Index := 0#32
  ![v2688.toNat, 64, 0]

def k0_off204 (v2686 : BitVec 32) : Fin 3 → Nat :=
  let v2691 : Index := Scalar.indexCast v2686
  let c0_764 : Index := 0#32
  let c0_765 : Index := 0#32
  ![v2691.toNat, 0, 0]

def k0_chk49 (v2686 : BitVec 32) : Prop :=
  (∀ a, (k0_off203 v2686) a + S1x64x128.size a ≤ S128x128x128.size a) ∧
  (∀ a, (k0_off204 v2686) a + S1x64x128.size a ≤ S128x128x128.size a)
theorem k0_off203_inb : ∀ (v2686 : BitVec 32) (k0_hw49 : k0_chk49 v2686), ∀ a, (k0_off203 v2686) a + S1x64x128.size a ≤ S128x128x128.size a := fun v2686 k0_hw49 => k0_hw49.1
theorem k0_off204_inb : ∀ (v2686 : BitVec 32) (k0_hw49 : k0_chk49 v2686), ∀ a, (k0_off204 v2686) a + S1x64x128.size a ≤ S128x128x128.size a := fun v2686 k0_hw49 => k0_hw49.2

def k0_off205 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_766 : BitVec 32 := 48#32
  let v2700 : BitVec 32 := Scalar.addi v613 c48_i32_766
  let c1_i32_767 : BitVec 32 := 1#32
  let v2701 : BitVec 32 := Scalar.addi v2700 c1_i32_767
  let v2702 : Index := Scalar.indexCast v2701
  ![v2702.toNat]
def k0_off206 (v2703 : BitVec 32) : Fin 3 → Nat :=
  let v2705 : Index := Scalar.indexCast v2703
  let c64_768 : Index := 64#32
  let c0_769 : Index := 0#32
  ![v2705.toNat, 64, 0]

def k0_off207 (v2703 : BitVec 32) : Fin 3 → Nat :=
  let v2708 : Index := Scalar.indexCast v2703
  let c0_770 : Index := 0#32
  let c0_771 : Index := 0#32
  ![v2708.toNat, 0, 0]

def k0_chk50 (v2703 : BitVec 32) : Prop :=
  (∀ a, (k0_off206 v2703) a + S1x64x128.size a ≤ S128x128x128.size a) ∧
  (∀ a, (k0_off207 v2703) a + S1x64x128.size a ≤ S128x128x128.size a)
theorem k0_off206_inb : ∀ (v2703 : BitVec 32) (k0_hw50 : k0_chk50 v2703), ∀ a, (k0_off206 v2703) a + S1x64x128.size a ≤ S128x128x128.size a := fun v2703 k0_hw50 => k0_hw50.1
theorem k0_off207_inb : ∀ (v2703 : BitVec 32) (k0_hw50 : k0_chk50 v2703), ∀ a, (k0_off207 v2703) a + S1x64x128.size a ≤ S128x128x128.size a := fun v2703 k0_hw50 => k0_hw50.2

def k0_off208 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_772 : BitVec 32 := 48#32
  let v2717 : BitVec 32 := Scalar.addi v613 c48_i32_772
  let c2_i32_773 : BitVec 32 := 2#32
  let v2718 : BitVec 32 := Scalar.addi v2717 c2_i32_773
  let v2719 : Index := Scalar.indexCast v2718
  ![v2719.toNat]
def k0_off209 (v2720 : BitVec 32) : Fin 3 → Nat :=
  let v2722 : Index := Scalar.indexCast v2720
  let c64_774 : Index := 64#32
  let c0_775 : Index := 0#32
  ![v2722.toNat, 64, 0]

def k0_off210 (v2720 : BitVec 32) : Fin 3 → Nat :=
  let v2725 : Index := Scalar.indexCast v2720
  let c0_776 : Index := 0#32
  let c0_777 : Index := 0#32
  ![v2725.toNat, 0, 0]

def k0_chk51 (v2720 : BitVec 32) : Prop :=
  (∀ a, (k0_off209 v2720) a + S1x64x128.size a ≤ S128x128x128.size a) ∧
  (∀ a, (k0_off210 v2720) a + S1x64x128.size a ≤ S128x128x128.size a)
theorem k0_off209_inb : ∀ (v2720 : BitVec 32) (k0_hw51 : k0_chk51 v2720), ∀ a, (k0_off209 v2720) a + S1x64x128.size a ≤ S128x128x128.size a := fun v2720 k0_hw51 => k0_hw51.1
theorem k0_off210_inb : ∀ (v2720 : BitVec 32) (k0_hw51 : k0_chk51 v2720), ∀ a, (k0_off210 v2720) a + S1x64x128.size a ≤ S128x128x128.size a := fun v2720 k0_hw51 => k0_hw51.2

def k0_off211 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_778 : BitVec 32 := 48#32
  let v2734 : BitVec 32 := Scalar.addi v613 c48_i32_778
  let c3_i32_779 : BitVec 32 := 3#32
  let v2735 : BitVec 32 := Scalar.addi v2734 c3_i32_779
  let v2736 : Index := Scalar.indexCast v2735
  ![v2736.toNat]
def k0_off212 (v2737 : BitVec 32) : Fin 3 → Nat :=
  let v2739 : Index := Scalar.indexCast v2737
  let c64_780 : Index := 64#32
  let c0_781 : Index := 0#32
  ![v2739.toNat, 64, 0]

def k0_off213 (v2737 : BitVec 32) : Fin 3 → Nat :=
  let v2742 : Index := Scalar.indexCast v2737
  let c0_782 : Index := 0#32
  let c0_783 : Index := 0#32
  ![v2742.toNat, 0, 0]

def k0_chk52 (v2737 : BitVec 32) : Prop :=
  (∀ a, (k0_off212 v2737) a + S1x64x128.size a ≤ S128x128x128.size a) ∧
  (∀ a, (k0_off213 v2737) a + S1x64x128.size a ≤ S128x128x128.size a)
theorem k0_off212_inb : ∀ (v2737 : BitVec 32) (k0_hw52 : k0_chk52 v2737), ∀ a, (k0_off212 v2737) a + S1x64x128.size a ≤ S128x128x128.size a := fun v2737 k0_hw52 => k0_hw52.1
theorem k0_off213_inb : ∀ (v2737 : BitVec 32) (k0_hw52 : k0_chk52 v2737), ∀ a, (k0_off213 v2737) a + S1x64x128.size a ≤ S128x128x128.size a := fun v2737 k0_hw52 => k0_hw52.2

def k0_off214 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_784 : BitVec 32 := 48#32
  let v2751 : BitVec 32 := Scalar.addi v613 c48_i32_784
  let c4_i32_785 : BitVec 32 := 4#32
  let v2752 : BitVec 32 := Scalar.addi v2751 c4_i32_785
  let v2753 : Index := Scalar.indexCast v2752
  ![v2753.toNat]
def k0_off215 (v2754 : BitVec 32) : Fin 3 → Nat :=
  let v2756 : Index := Scalar.indexCast v2754
  let c64_786 : Index := 64#32
  let c0_787 : Index := 0#32
  ![v2756.toNat, 64, 0]

def k0_off216 (v2754 : BitVec 32) : Fin 3 → Nat :=
  let v2759 : Index := Scalar.indexCast v2754
  let c0_788 : Index := 0#32
  let c0_789 : Index := 0#32
  ![v2759.toNat, 0, 0]

def k0_chk53 (v2754 : BitVec 32) : Prop :=
  (∀ a, (k0_off215 v2754) a + S1x64x128.size a ≤ S128x128x128.size a) ∧
  (∀ a, (k0_off216 v2754) a + S1x64x128.size a ≤ S128x128x128.size a)
theorem k0_off215_inb : ∀ (v2754 : BitVec 32) (k0_hw53 : k0_chk53 v2754), ∀ a, (k0_off215 v2754) a + S1x64x128.size a ≤ S128x128x128.size a := fun v2754 k0_hw53 => k0_hw53.1
theorem k0_off216_inb : ∀ (v2754 : BitVec 32) (k0_hw53 : k0_chk53 v2754), ∀ a, (k0_off216 v2754) a + S1x64x128.size a ≤ S128x128x128.size a := fun v2754 k0_hw53 => k0_hw53.2

def k0_off217 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_790 : BitVec 32 := 48#32
  let v2768 : BitVec 32 := Scalar.addi v613 c48_i32_790
  let c5_i32_791 : BitVec 32 := 5#32
  let v2769 : BitVec 32 := Scalar.addi v2768 c5_i32_791
  let v2770 : Index := Scalar.indexCast v2769
  ![v2770.toNat]
def k0_off218 (v2771 : BitVec 32) : Fin 3 → Nat :=
  let v2773 : Index := Scalar.indexCast v2771
  let c64_792 : Index := 64#32
  let c0_793 : Index := 0#32
  ![v2773.toNat, 64, 0]

def k0_off219 (v2771 : BitVec 32) : Fin 3 → Nat :=
  let v2776 : Index := Scalar.indexCast v2771
  let c0_794 : Index := 0#32
  let c0_795 : Index := 0#32
  ![v2776.toNat, 0, 0]

def k0_chk54 (v2771 : BitVec 32) : Prop :=
  (∀ a, (k0_off218 v2771) a + S1x64x128.size a ≤ S128x128x128.size a) ∧
  (∀ a, (k0_off219 v2771) a + S1x64x128.size a ≤ S128x128x128.size a)
theorem k0_off218_inb : ∀ (v2771 : BitVec 32) (k0_hw54 : k0_chk54 v2771), ∀ a, (k0_off218 v2771) a + S1x64x128.size a ≤ S128x128x128.size a := fun v2771 k0_hw54 => k0_hw54.1
theorem k0_off219_inb : ∀ (v2771 : BitVec 32) (k0_hw54 : k0_chk54 v2771), ∀ a, (k0_off219 v2771) a + S1x64x128.size a ≤ S128x128x128.size a := fun v2771 k0_hw54 => k0_hw54.2

def k0_off220 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_796 : BitVec 32 := 48#32
  let v2785 : BitVec 32 := Scalar.addi v613 c48_i32_796
  let c6_i32_797 : BitVec 32 := 6#32
  let v2786 : BitVec 32 := Scalar.addi v2785 c6_i32_797
  let v2787 : Index := Scalar.indexCast v2786
  ![v2787.toNat]
def k0_off221 (v2788 : BitVec 32) : Fin 3 → Nat :=
  let v2790 : Index := Scalar.indexCast v2788
  let c64_798 : Index := 64#32
  let c0_799 : Index := 0#32
  ![v2790.toNat, 64, 0]

def k0_off222 (v2788 : BitVec 32) : Fin 3 → Nat :=
  let v2793 : Index := Scalar.indexCast v2788
  let c0_800 : Index := 0#32
  let c0_801 : Index := 0#32
  ![v2793.toNat, 0, 0]

def k0_chk55 (v2788 : BitVec 32) : Prop :=
  (∀ a, (k0_off221 v2788) a + S1x64x128.size a ≤ S128x128x128.size a) ∧
  (∀ a, (k0_off222 v2788) a + S1x64x128.size a ≤ S128x128x128.size a)
theorem k0_off221_inb : ∀ (v2788 : BitVec 32) (k0_hw55 : k0_chk55 v2788), ∀ a, (k0_off221 v2788) a + S1x64x128.size a ≤ S128x128x128.size a := fun v2788 k0_hw55 => k0_hw55.1
theorem k0_off222_inb : ∀ (v2788 : BitVec 32) (k0_hw55 : k0_chk55 v2788), ∀ a, (k0_off222 v2788) a + S1x64x128.size a ≤ S128x128x128.size a := fun v2788 k0_hw55 => k0_hw55.2

def k0_off223 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_802 : BitVec 32 := 48#32
  let v2802 : BitVec 32 := Scalar.addi v613 c48_i32_802
  let c7_i32_803 : BitVec 32 := 7#32
  let v2803 : BitVec 32 := Scalar.addi v2802 c7_i32_803
  let v2804 : Index := Scalar.indexCast v2803
  ![v2804.toNat]
def k0_off224 (v2805 : BitVec 32) : Fin 3 → Nat :=
  let v2807 : Index := Scalar.indexCast v2805
  let c64_804 : Index := 64#32
  let c0_805 : Index := 0#32
  ![v2807.toNat, 64, 0]

def k0_off225 (v2805 : BitVec 32) : Fin 3 → Nat :=
  let v2810 : Index := Scalar.indexCast v2805
  let c0_806 : Index := 0#32
  let c0_807 : Index := 0#32
  ![v2810.toNat, 0, 0]

def k0_chk56 (v2805 : BitVec 32) : Prop :=
  (∀ a, (k0_off224 v2805) a + S1x64x128.size a ≤ S128x128x128.size a) ∧
  (∀ a, (k0_off225 v2805) a + S1x64x128.size a ≤ S128x128x128.size a)
theorem k0_off224_inb : ∀ (v2805 : BitVec 32) (k0_hw56 : k0_chk56 v2805), ∀ a, (k0_off224 v2805) a + S1x64x128.size a ≤ S128x128x128.size a := fun v2805 k0_hw56 => k0_hw56.1
theorem k0_off225_inb : ∀ (v2805 : BitVec 32) (k0_hw56 : k0_chk56 v2805), ∀ a, (k0_off225 v2805) a + S1x64x128.size a ≤ S128x128x128.size a := fun v2805 k0_hw56 => k0_hw56.2

def k0_off226 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_808 : BitVec 32 := 48#32
  let v2819 : BitVec 32 := Scalar.addi v613 c48_i32_808
  let c8_i32_809 : BitVec 32 := 8#32
  let v2820 : BitVec 32 := Scalar.addi v2819 c8_i32_809
  let v2821 : Index := Scalar.indexCast v2820
  ![v2821.toNat]
def k0_off227 (v2822 : BitVec 32) : Fin 3 → Nat :=
  let v2824 : Index := Scalar.indexCast v2822
  let c64_810 : Index := 64#32
  let c0_811 : Index := 0#32
  ![v2824.toNat, 64, 0]

def k0_off228 (v2822 : BitVec 32) : Fin 3 → Nat :=
  let v2827 : Index := Scalar.indexCast v2822
  let c0_812 : Index := 0#32
  let c0_813 : Index := 0#32
  ![v2827.toNat, 0, 0]

def k0_chk57 (v2822 : BitVec 32) : Prop :=
  (∀ a, (k0_off227 v2822) a + S1x64x128.size a ≤ S128x128x128.size a) ∧
  (∀ a, (k0_off228 v2822) a + S1x64x128.size a ≤ S128x128x128.size a)
theorem k0_off227_inb : ∀ (v2822 : BitVec 32) (k0_hw57 : k0_chk57 v2822), ∀ a, (k0_off227 v2822) a + S1x64x128.size a ≤ S128x128x128.size a := fun v2822 k0_hw57 => k0_hw57.1
theorem k0_off228_inb : ∀ (v2822 : BitVec 32) (k0_hw57 : k0_chk57 v2822), ∀ a, (k0_off228 v2822) a + S1x64x128.size a ≤ S128x128x128.size a := fun v2822 k0_hw57 => k0_hw57.2

def k0_off229 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_814 : BitVec 32 := 48#32
  let v2836 : BitVec 32 := Scalar.addi v613 c48_i32_814
  let c9_i32_815 : BitVec 32 := 9#32
  let v2837 : BitVec 32 := Scalar.addi v2836 c9_i32_815
  let v2838 : Index := Scalar.indexCast v2837
  ![v2838.toNat]
def k0_off230 (v2839 : BitVec 32) : Fin 3 → Nat :=
  let v2841 : Index := Scalar.indexCast v2839
  let c64_816 : Index := 64#32
  let c0_817 : Index := 0#32
  ![v2841.toNat, 64, 0]

def k0_off231 (v2839 : BitVec 32) : Fin 3 → Nat :=
  let v2844 : Index := Scalar.indexCast v2839
  let c0_818 : Index := 0#32
  let c0_819 : Index := 0#32
  ![v2844.toNat, 0, 0]

def k0_chk58 (v2839 : BitVec 32) : Prop :=
  (∀ a, (k0_off230 v2839) a + S1x64x128.size a ≤ S128x128x128.size a) ∧
  (∀ a, (k0_off231 v2839) a + S1x64x128.size a ≤ S128x128x128.size a)
theorem k0_off230_inb : ∀ (v2839 : BitVec 32) (k0_hw58 : k0_chk58 v2839), ∀ a, (k0_off230 v2839) a + S1x64x128.size a ≤ S128x128x128.size a := fun v2839 k0_hw58 => k0_hw58.1
theorem k0_off231_inb : ∀ (v2839 : BitVec 32) (k0_hw58 : k0_chk58 v2839), ∀ a, (k0_off231 v2839) a + S1x64x128.size a ≤ S128x128x128.size a := fun v2839 k0_hw58 => k0_hw58.2

def k0_off232 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_820 : BitVec 32 := 48#32
  let v2853 : BitVec 32 := Scalar.addi v613 c48_i32_820
  let c10_i32_821 : BitVec 32 := 10#32
  let v2854 : BitVec 32 := Scalar.addi v2853 c10_i32_821
  let v2855 : Index := Scalar.indexCast v2854
  ![v2855.toNat]
def k0_off233 (v2856 : BitVec 32) : Fin 3 → Nat :=
  let v2858 : Index := Scalar.indexCast v2856
  let c64_822 : Index := 64#32
  let c0_823 : Index := 0#32
  ![v2858.toNat, 64, 0]

def k0_off234 (v2856 : BitVec 32) : Fin 3 → Nat :=
  let v2861 : Index := Scalar.indexCast v2856
  let c0_824 : Index := 0#32
  let c0_825 : Index := 0#32
  ![v2861.toNat, 0, 0]

def k0_chk59 (v2856 : BitVec 32) : Prop :=
  (∀ a, (k0_off233 v2856) a + S1x64x128.size a ≤ S128x128x128.size a) ∧
  (∀ a, (k0_off234 v2856) a + S1x64x128.size a ≤ S128x128x128.size a)
theorem k0_off233_inb : ∀ (v2856 : BitVec 32) (k0_hw59 : k0_chk59 v2856), ∀ a, (k0_off233 v2856) a + S1x64x128.size a ≤ S128x128x128.size a := fun v2856 k0_hw59 => k0_hw59.1
theorem k0_off234_inb : ∀ (v2856 : BitVec 32) (k0_hw59 : k0_chk59 v2856), ∀ a, (k0_off234 v2856) a + S1x64x128.size a ≤ S128x128x128.size a := fun v2856 k0_hw59 => k0_hw59.2

def k0_off235 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_826 : BitVec 32 := 48#32
  let v2870 : BitVec 32 := Scalar.addi v613 c48_i32_826
  let c11_i32_827 : BitVec 32 := 11#32
  let v2871 : BitVec 32 := Scalar.addi v2870 c11_i32_827
  let v2872 : Index := Scalar.indexCast v2871
  ![v2872.toNat]
def k0_off236 (v2873 : BitVec 32) : Fin 3 → Nat :=
  let v2875 : Index := Scalar.indexCast v2873
  let c64_828 : Index := 64#32
  let c0_829 : Index := 0#32
  ![v2875.toNat, 64, 0]

def k0_off237 (v2873 : BitVec 32) : Fin 3 → Nat :=
  let v2878 : Index := Scalar.indexCast v2873
  let c0_830 : Index := 0#32
  let c0_831 : Index := 0#32
  ![v2878.toNat, 0, 0]

def k0_chk60 (v2873 : BitVec 32) : Prop :=
  (∀ a, (k0_off236 v2873) a + S1x64x128.size a ≤ S128x128x128.size a) ∧
  (∀ a, (k0_off237 v2873) a + S1x64x128.size a ≤ S128x128x128.size a)
theorem k0_off236_inb : ∀ (v2873 : BitVec 32) (k0_hw60 : k0_chk60 v2873), ∀ a, (k0_off236 v2873) a + S1x64x128.size a ≤ S128x128x128.size a := fun v2873 k0_hw60 => k0_hw60.1
theorem k0_off237_inb : ∀ (v2873 : BitVec 32) (k0_hw60 : k0_chk60 v2873), ∀ a, (k0_off237 v2873) a + S1x64x128.size a ≤ S128x128x128.size a := fun v2873 k0_hw60 => k0_hw60.2

def k0_off238 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_832 : BitVec 32 := 48#32
  let v2887 : BitVec 32 := Scalar.addi v613 c48_i32_832
  let c12_i32_833 : BitVec 32 := 12#32
  let v2888 : BitVec 32 := Scalar.addi v2887 c12_i32_833
  let v2889 : Index := Scalar.indexCast v2888
  ![v2889.toNat]
def k0_off239 (v2890 : BitVec 32) : Fin 3 → Nat :=
  let v2892 : Index := Scalar.indexCast v2890
  let c64_834 : Index := 64#32
  let c0_835 : Index := 0#32
  ![v2892.toNat, 64, 0]

def k0_off240 (v2890 : BitVec 32) : Fin 3 → Nat :=
  let v2895 : Index := Scalar.indexCast v2890
  let c0_836 : Index := 0#32
  let c0_837 : Index := 0#32
  ![v2895.toNat, 0, 0]

def k0_chk61 (v2890 : BitVec 32) : Prop :=
  (∀ a, (k0_off239 v2890) a + S1x64x128.size a ≤ S128x128x128.size a) ∧
  (∀ a, (k0_off240 v2890) a + S1x64x128.size a ≤ S128x128x128.size a)
theorem k0_off239_inb : ∀ (v2890 : BitVec 32) (k0_hw61 : k0_chk61 v2890), ∀ a, (k0_off239 v2890) a + S1x64x128.size a ≤ S128x128x128.size a := fun v2890 k0_hw61 => k0_hw61.1
theorem k0_off240_inb : ∀ (v2890 : BitVec 32) (k0_hw61 : k0_chk61 v2890), ∀ a, (k0_off240 v2890) a + S1x64x128.size a ≤ S128x128x128.size a := fun v2890 k0_hw61 => k0_hw61.2

def k0_off241 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_838 : BitVec 32 := 48#32
  let v2904 : BitVec 32 := Scalar.addi v613 c48_i32_838
  let c13_i32_839 : BitVec 32 := 13#32
  let v2905 : BitVec 32 := Scalar.addi v2904 c13_i32_839
  let v2906 : Index := Scalar.indexCast v2905
  ![v2906.toNat]
def k0_off242 (v2907 : BitVec 32) : Fin 3 → Nat :=
  let v2909 : Index := Scalar.indexCast v2907
  let c64_840 : Index := 64#32
  let c0_841 : Index := 0#32
  ![v2909.toNat, 64, 0]

def k0_off243 (v2907 : BitVec 32) : Fin 3 → Nat :=
  let v2912 : Index := Scalar.indexCast v2907
  let c0_842 : Index := 0#32
  let c0_843 : Index := 0#32
  ![v2912.toNat, 0, 0]

def k0_chk62 (v2907 : BitVec 32) : Prop :=
  (∀ a, (k0_off242 v2907) a + S1x64x128.size a ≤ S128x128x128.size a) ∧
  (∀ a, (k0_off243 v2907) a + S1x64x128.size a ≤ S128x128x128.size a)
theorem k0_off242_inb : ∀ (v2907 : BitVec 32) (k0_hw62 : k0_chk62 v2907), ∀ a, (k0_off242 v2907) a + S1x64x128.size a ≤ S128x128x128.size a := fun v2907 k0_hw62 => k0_hw62.1
theorem k0_off243_inb : ∀ (v2907 : BitVec 32) (k0_hw62 : k0_chk62 v2907), ∀ a, (k0_off243 v2907) a + S1x64x128.size a ≤ S128x128x128.size a := fun v2907 k0_hw62 => k0_hw62.2

def k0_off244 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_844 : BitVec 32 := 48#32
  let v2921 : BitVec 32 := Scalar.addi v613 c48_i32_844
  let c14_i32_845 : BitVec 32 := 14#32
  let v2922 : BitVec 32 := Scalar.addi v2921 c14_i32_845
  let v2923 : Index := Scalar.indexCast v2922
  ![v2923.toNat]
def k0_off245 (v2924 : BitVec 32) : Fin 3 → Nat :=
  let v2926 : Index := Scalar.indexCast v2924
  let c64_846 : Index := 64#32
  let c0_847 : Index := 0#32
  ![v2926.toNat, 64, 0]

def k0_off246 (v2924 : BitVec 32) : Fin 3 → Nat :=
  let v2929 : Index := Scalar.indexCast v2924
  let c0_848 : Index := 0#32
  let c0_849 : Index := 0#32
  ![v2929.toNat, 0, 0]

def k0_chk63 (v2924 : BitVec 32) : Prop :=
  (∀ a, (k0_off245 v2924) a + S1x64x128.size a ≤ S128x128x128.size a) ∧
  (∀ a, (k0_off246 v2924) a + S1x64x128.size a ≤ S128x128x128.size a)
theorem k0_off245_inb : ∀ (v2924 : BitVec 32) (k0_hw63 : k0_chk63 v2924), ∀ a, (k0_off245 v2924) a + S1x64x128.size a ≤ S128x128x128.size a := fun v2924 k0_hw63 => k0_hw63.1
theorem k0_off246_inb : ∀ (v2924 : BitVec 32) (k0_hw63 : k0_chk63 v2924), ∀ a, (k0_off246 v2924) a + S1x64x128.size a ≤ S128x128x128.size a := fun v2924 k0_hw63 => k0_hw63.2

def k0_off247 (i : grid0.Coords) (k0_t1 : Fin k0_t1_loop.trips) : Fin 1 → Nat :=
  let arg0 : BitVec 32 := BitVec.ofNat 32 (i 0).val
  let c8_i32_167 : BitVec 32 := 8#32
  let v611 : BitVec 32 := Scalar.muli arg0 c8_i32_167
  let c0_i32_50 : BitVec 32 := 0#32
  let c1_i32_52 : BitVec 32 := 1#32
  let arg8 : BitVec 32 := Scf.iv c0_i32_50 c1_i32_52 k0_t1
  let v612 : BitVec 32 := Scalar.addi v611 arg8
  let c64_i32 : BitVec 32 := 64#32
  let v613 : BitVec 32 := Scalar.muli v612 c64_i32
  let c48_i32_850 : BitVec 32 := 48#32
  let v2938 : BitVec 32 := Scalar.addi v613 c48_i32_850
  let c15_i32_851 : BitVec 32 := 15#32
  let v2939 : BitVec 32 := Scalar.addi v2938 c15_i32_851
  let v2940 : Index := Scalar.indexCast v2939
  ![v2940.toNat]
def k0_off248 (v2941 : BitVec 32) : Fin 3 → Nat :=
  let v2943 : Index := Scalar.indexCast v2941
  let c64_852 : Index := 64#32
  let c0_853 : Index := 0#32
  ![v2943.toNat, 64, 0]

def k0_off249 (v2941 : BitVec 32) : Fin 3 → Nat :=
  let v2946 : Index := Scalar.indexCast v2941
  let c0_854 : Index := 0#32
  let c0_855 : Index := 0#32
  ![v2946.toNat, 0, 0]

def k0_chk64 (v2941 : BitVec 32) : Prop :=
  (∀ a, (k0_off248 v2941) a + S1x64x128.size a ≤ S128x128x128.size a) ∧
  (∀ a, (k0_off249 v2941) a + S1x64x128.size a ≤ S128x128x128.size a)
theorem k0_off248_inb : ∀ (v2941 : BitVec 32) (k0_hw64 : k0_chk64 v2941), ∀ a, (k0_off248 v2941) a + S1x64x128.size a ≤ S128x128x128.size a := fun v2941 k0_hw64 => k0_hw64.1
theorem k0_off249_inb : ∀ (v2941 : BitVec 32) (k0_hw64 : k0_chk64 v2941), ∀ a, (k0_off249 v2941) a + S1x64x128.size a ≤ S128x128x128.size a := fun v2941 k0_hw64 => k0_hw64.2

def k0_cond2 (i : grid0.Coords) : BitVec 1 :=
  let arg0 : BitVec 32 := BitVec.ofNat 32 (i 0).val
  let c31_i32 : BitVec 32 := 31#32
  let v160 : BitVec 1 := Scalar.cmpi .eq arg0 c31_i32
  let v161 : BitVec 32 := Scalar.extui v160
  let c0_i32_54 : BitVec 32 := 0#32
  let v162 : BitVec 1 := Scalar.cmpi .ne v161 c0_i32_54
  v162

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F]
-- ==== ReferenceIdeal.lean ====
abbrev S8x1x16384 : Shape := ⟨3, ![8, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S_ : Shape := ⟨0, ![]⟩
abbrev S8x1x8192 : Shape := ⟨3, ![8, 1, 8192]⟩
abbrev S8192 : Shape := ⟨1, ![8192]⟩
abbrev S8192x1 : Shape := ⟨2, ![8192, 1]⟩
abbrev S8x1x7168 : Shape := ⟨3, ![8, 1, 7168]⟩
abbrev S8x7168 : Shape := ⟨2, ![8, 7168]⟩

abbrev nBuf : Space → Nat
  | .hbm => 74
  | .vmem => 0
  | .smem => 0
  | _ => 0

abbrev bufTy : (tb : Table) → Fin (tcTables nBuf tb) → BufTy
  | .hbm, ⟨0, _⟩ => ⟨S8x1x16384, .bf16⟩
  | .hbm, ⟨1, _⟩ => ⟨S8192x7168, .i8⟩
  | .hbm, ⟨2, _⟩ => ⟨S128x7168, .bf16⟩
  | .hbm, ⟨3, _⟩ => ⟨S64x7168, .i8⟩
  | .hbm, ⟨4, _⟩ => ⟨S16384, .i32⟩
  | .hbm, ⟨5, _⟩ => ⟨S64x7168, .i32⟩
  | .hbm, ⟨6, _⟩ => ⟨S_, .i32⟩
  | .hbm, ⟨7, _⟩ => ⟨S64x7168, .i32⟩
  | .hbm, ⟨8, _⟩ => ⟨S64x7168, .i32⟩
  | .hbm, ⟨9, _⟩ => ⟨S64x7168, .i32⟩
  | .hbm, ⟨10, _⟩ => ⟨S_, .i32⟩
  | .hbm, ⟨11, _⟩ => ⟨S64x7168, .i32⟩
  | .hbm, ⟨12, _⟩ => ⟨S64x7168, .i32⟩
  | .hbm, ⟨13, _⟩ => ⟨S128x7168, .i32⟩
  | .hbm, ⟨14, _⟩ => ⟨S128x7168, .bf16⟩
  | .hbm, ⟨15, _⟩ => ⟨S8x1x8192, .bf16⟩
  | .hbm, ⟨16, _⟩ => ⟨S8192x7168, .i32⟩
  | .hbm, ⟨17, _⟩ => ⟨S_, .i32⟩
  | .hbm, ⟨18, _⟩ => ⟨S8192x7168, .i32⟩
  | .hbm, ⟨19, _⟩ => ⟨S8192x7168, .i32⟩
  | .hbm, ⟨20, _⟩ => ⟨S8192, .i32⟩
  | .hbm, ⟨21, _⟩ => ⟨S8192x7168, .bf16⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x7168, .bf16⟩
  | .hbm, ⟨31, _⟩ => ⟨S8192x7168, .bf16⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S8192x7168, .bf16⟩
  | .hbm, ⟨41, _⟩ => ⟨S8192x7168, .bf16⟩
  | .hbm, ⟨42, _⟩ => ⟨S8x1x7168, .f32⟩
  | .hbm, ⟨43, _⟩ => ⟨S8x1x8192, .bf16⟩
  | .hbm, ⟨44, _⟩ => ⟨S8192x7168, .i32⟩
  | .hbm, ⟨45, _⟩ => ⟨S_, .i32⟩
  | .hbm, ⟨46, _⟩ => ⟨S8192x7168, .i32⟩
  | .hbm, ⟨47, _⟩ => ⟨S8192x7168, .i32⟩
  | .hbm, ⟨48, _⟩ => ⟨S8192, .i32⟩
  | .hbm, ⟨49, _⟩ => ⟨S8192x7168, .bf16⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x7168, .bf16⟩
  | .hbm, ⟨59, _⟩ => ⟨S8192x7168, .bf16⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S8192x7168, .bf16⟩
  | .hbm, ⟨69, _⟩ => ⟨S8192x7168, .bf16⟩
  | .hbm, ⟨70, _⟩ => ⟨S8x1x7168, .f32⟩
  | .hbm, ⟨71, _⟩ => ⟨S8x1x7168, .f32⟩
  | .hbm, ⟨72, _⟩ => ⟨S8x1x7168, .bf16⟩
  | .hbm, ⟨73, _⟩ => ⟨S8x7168, .bf16⟩
  | _, _ => ⟨S8x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Proof.Runs.lean ====
/-
  Running the kernel's body as a function of what its seven buffers hold. `Runs p σ a σ'`: from the buffers held at
  `σ`, the program `p` returns `a` and leaves them at `σ'`. One rule per memory operation, one for sequencing, one for
  a counted loop; the two programs of the claim share them.
-/
module

public import Idealize.ShloMosaic.Lib.Tactic
public import Idealize.ShloMosaic.Lib.Memref
public import Idealize.ShloMosaic.Lib.Scf
public import Idealize.ShloMosaic.Lib.Pipeline.Kit

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- Contents `X` with the elements under the rectangle `r` replaced by `w`. -/
def wr {s : Shape} {A : Type} (X : s.Idx → A) (r : Rect s) (w : r.shape.Idx → A) : s.Idx → A := by
  classical exact fun y => if h : ∃ x, r.emb x = y then w h.choose else X y

theorem wr_emb {s : Shape} {A : Type} (X : s.Idx → A) (r : Rect s) (w : r.shape.Idx → A) (x : r.shape.Idx) :
    wr X r w (r.emb x) = w x := by
  unfold wr
  have h : ∃ x', r.emb x' = r.emb x := ⟨x, rfl⟩
  rw [dif_pos h]; congr 1; exact r.emb.injective h.choose_spec

theorem wr_off {s : Shape} {A : Type} (X : s.Idx → A) (r : Rect s) (w : r.shape.Idx → A) (y : s.Idx)
    (h : ∀ x, r.emb x ≠ y) : wr X r w y = X y := by
  unfold wr
  rw [dif_neg]; rintro ⟨x, hx⟩; exact h x hx

/-- Contents `X` as a load through `r` reads them. -/
def rd {s : Shape} {A : Type} (X : s.Idx → A) (r : LoadRect s) : r.shape.Idx → A := fun x => X (r.idx x)

/-- A buffer that loads go through only: its contents stay. Generic rule of a load. -/
theorem owns_load {Ix : Type} [DecidableEq Ix] {Name : Type} [DecidableEq Name] {U : Type} [URA U] {Lvl : Type} [Preorder Lvl]
    {defs : Defs nD τ sig Val Λ} (𝒱 : Variants) (c : Thread nD τ) (bd : Option 𝒱.V) (E : Set Name)
    {s : Shape} {e : EltTy} {β : Type} {Q : β → sProp (MT nD τ sig Ix Val Name U Lvl)} {cs : CoreSpace} {m : Memref sig c.2.kind cs s e}
    {r : LoadRect s} {hl : m.view.LoadsAt r} {k : (r.shape.Idx → Val e) → Prog (TpuEff nD τ sig Val Λ c.2) β}
    (q : PosShare TreeShare) (X : s.Idx → Val e) :
    (owns c m q X : sProp (MT nD τ sig Ix Val Name U Lvl)) ⊢ iprop((owns c m q X -∗ wp frame (wpE defs 𝒱 c bd) E (k (rd X r)) Q)
      -∗ wp frame (wpE defs 𝒱 c bd) E (.op (.load m r hl) k) Q) := by
  unfold owns
  iintro ⟨%f, %hf, H⟩ K
  have hS : m.view.setOn r.set ⊆ m.view.set := by
    rw [← View.setOn_univ]; exact Finset.map_subset_map.mpr (Finset.subset_univ _)
  iapply (wp_load 𝒱 c bd E (Q := Q) (k := k) (hl := hl) hS) $$ H
  iintro H
  have hr : m.view.readAt Val r f = rd X r := by
    subst hf; rfl
  rw [hr]
  iapply K
  iexists f
  isplitr; · ipureintro; exact hf
  iexact H

/-- A store through a rectangle of an owned memref. -/
theorem owns_store {Ix : Type} [DecidableEq Ix] {Name : Type} [DecidableEq Name] {U : Type} [URA U] {Lvl : Type} [Preorder Lvl]
    {defs : Defs nD τ sig Val Λ} (𝒱 : Variants) (c : Thread nD τ) (bd : Option 𝒱.V) (E : Set Name)
    {s : Shape} {e : EltTy} {β : Type} {Q : β → sProp (MT nD τ sig Ix Val Name U Lvl)} {cs : CoreSpace} {m : Memref sig c.2.kind cs s e}
    {r : Rect s} {w : r.shape.Idx → Val e} {hx : (m.access r).Stores Finset.univ} {hm : (Finset.univ : Finset r.shape.Idx) = Finset.univ ∨ ∀ a, r.stride a = 1}
    {k : PUnit → Prog (TpuEff nD τ sig Val Λ c.2) β}
    (X : s.Idx → Val e) :
    (owns c m fullShare X : sProp (MT nD τ sig Ix Val Name U Lvl)) ⊢ iprop((owns c m fullShare (wr X r w) -∗ wp frame (wpE defs 𝒱 c bd) E (k ⟨⟩) Q)
      -∗ wp frame (wpE defs 𝒱 c bd) E (.op (.store m r w Finset.univ hx hm) k) Q) := by
  unfold owns
  iintro ⟨%f, %hf, H⟩ K
  have hS : (m.access r).setOn Finset.univ ⊆ m.view.set := by
    rw [View.setOn_univ]
    exact (View.set_slice m.view r).trans_subset (by rw [← View.setOn_univ]; exact Finset.map_subset_map.mpr (Finset.subset_univ _))
  iapply (wp_store 𝒱 c bd E (Q := Q) (k := k) (w := w) (Mk := Finset.univ) (hx := hx) (hm := hm) (f := f) (S := m.view.set) hS) $$ H
  iintro H
  iapply K
  iexists _
  isplitr
  · ipureintro
    show m.view.read Val ((m.access r).write Val f w Finset.univ) = wr X r w
    funext y
    by_cases h : ∃ x, r.emb x = y
    · obtain ⟨x, rfl⟩ := h
      rw [wr_emb]
      exact View.read_slice_write_emb (v := m.view) r f w (Finset.mem_univ x)
    · rw [wr_off _ _ _ _ (fun x hx => h ⟨x, hx⟩), ← hf]
      exact View.read_slice_write_of_not_mem (v := m.view) r f w Finset.univ (by
        intro hy; obtain ⟨x, -, hx⟩ := Finset.mem_map.mp hy; exact h ⟨x, hx⟩)
  · iexact H

/-- What the buffers that the body writes hold: the output block, the relay and the accumulators. -/
structure St (Val : EltTy → Type) where
  /-- the output block -/
  o : (⟨2, ![8, 7168]⟩ : Shape).Idx → Val .bf16
  /-- the relay -/
  y : (⟨2, ![456, 128]⟩ : Shape).Idx → Val .i32
  /-- the accumulators -/
  a : (⟨3, ![2, 112, 256]⟩ : Shape).Idx → Val .f32

/-- Where the body's seven operands live, and what the four it only reads hold. -/
structure Env (nD : Nat) (τ : Topo) (sig : RefSig) (Val : EltTy → Type) where
  /-- the core -/
  c : Dev nD
  m1 : Memref sig .tc .smem ⟨1, ![16384]⟩ .i32
  m2 : Memref sig .tc .vmem ⟨2, ![256, 7168]⟩ .i8
  m3 : Memref sig .tc .vmem ⟨2, ![8, 16384]⟩ .bf16
  m4 : Memref sig .tc .vmem ⟨3, ![128, 128, 128]⟩ .bf16
  m5 : Memref sig .tc .vmem ⟨2, ![8, 7168]⟩ .bf16
  m6 : Memref sig .tc .vmem ⟨2, ![456, 128]⟩ .i32
  m7 : Memref sig .tc .vmem ⟨3, ![2, 112, 256]⟩ .f32
  q1 : PosShare TreeShare
  X1 : (⟨1, ![16384]⟩ : Shape).Idx → Val .i32
  X2 : (⟨2, ![256, 7168]⟩ : Shape).Idx → Val .i8
  X3 : (⟨2, ![8, 16384]⟩ : Shape).Idx → Val .bf16
  X4 : (⟨3, ![128, 128, 128]⟩ : Shape).Idx → Val .bf16

/-- The resource algebra of the frame theorems. -/
abbrev MM (nD : Nat) (τ : Topo) (sig : RefSig) (Val : EltTy → Type) := MT nD τ sig Unit Val ℕ (UR sig nD τ) ℕ

/-- The seven operands held at their contents. -/
def held (e : Env nD τ sig Val) (σ : St Val) : sProp (MM nD τ sig Val) :=
  iprop(owns e.c.tc e.m1 e.q1 e.X1 ∗ owns e.c.tc e.m2 fullShare e.X2 ∗ owns e.c.tc e.m3 fullShare e.X3 ∗ owns e.c.tc e.m4 fullShare e.X4
    ∗ owns e.c.tc e.m5 fullShare σ.o ∗ owns e.c.tc e.m6 fullShare σ.y ∗ owns e.c.tc e.m7 fullShare σ.a)

/-- From the buffers at `σ` the program returns `a` and leaves them at `σ'`. -/
structure Runs (defs : Defs nD τ sig Val Λ) (e : Env nD τ sig Val) {α : Type} (p : Prog (TpuEff nD τ sig Val Λ .tc) α) (σ : St Val) (a : α) (σ' : St Val) : Prop where
  run : ∀ (β : Type) (K : α → Prog (TpuEff nD τ sig Val Λ .tc) β) (Q : β → sProp (MM nD τ sig Val)),
    held e σ ⊢ iprop((held e σ' -∗ wp frame (wpE defs Variants.none e.c.tc none) Set.univ (K a) Q)
      -∗ wp frame (wpE defs Variants.none e.c.tc none) Set.univ (p >>= K) Q)

namespace Runs

variable {defs : Defs nD τ sig Val Λ} {e : Env nD τ sig Val} {α β : Type} {σ σ₁ σ₂ : St Val}

theorem pure (a : α) : Runs defs e (Pure.pure a) σ a σ := by
  refine ⟨fun β K Q => ?_⟩
  iintro H K
  iapply K $$ H

theorem ret (a : α) : Runs defs e (Prog.ret a) σ a σ := by
  refine ⟨fun β K Q => ?_⟩
  iintro H K
  iapply K $$ H

theorem bind {p : Prog (TpuEff nD τ sig Val Λ .tc) α} {k : α → Prog (TpuEff nD τ sig Val Λ .tc) β} {a : α} {b : β}
    (h₁ : Runs defs e p σ a σ₁) (h₂ : Runs defs e (k a) σ₁ b σ₂) : Runs defs e (p >>= k) σ b σ₂ := by
  refine ⟨fun γ K Q => ?_⟩
  have hb : ((p >>= k) >>= K) = (p >>= fun a => k a >>= K) := by
    exact bind_assoc p k K
  rw [hb]
  have h₁' := h₁.run _ (fun a => k a >>= K) Q
  have h₂' := h₂.run _ K Q
  iintro H W
  iapply h₁' $$ H
  iintro H
  iapply h₂' $$ H W

theorem last {p : Prog (TpuEff nD τ sig Val Λ .tc) α} {a : α} (h : Runs defs e p σ a σ₁) (Q : α → sProp (MM nD τ sig Val)) :
    held e σ ⊢ iprop((held e σ₁ -∗ Q a) -∗ wp frame (wpE defs Variants.none e.c.tc none) Set.univ p Q) := by
  have h' := h.run _ Prog.ret Q
  have hb : (p >>= Prog.ret) = p := bind_pure p
  rw [hb] at h'
  iintro H W
  iapply h' $$ H
  iintro H
  rw [show (wp frame (wpE defs Variants.none e.c.tc none) Set.univ (Prog.ret a) Q : sProp (MM nD τ sig Val)) = iprop(|={Set.univ}[frame]=> Q a) from rfl]
  imodintro
  iapply W $$ H

theorem load1 {r : LoadRect ⟨1, ![16384]⟩} {hl : e.m1.view.LoadsAt r} :
    Runs defs e (Prog.lift (.load e.m1 r hl)) σ (rd e.X1 r) σ := by
  refine ⟨fun β K Q => ?_⟩
  unfold held
  iintro ⟨H1, H2, H3, H4, H5, H6, H7⟩ W
  iapply (owns_load Variants.none e.c.tc none Set.univ (Q := Q) (m := e.m1) (hl := hl) (k := K) e.q1 e.X1) $$ H1
  iintro H1
  iapply W
  iframe

theorem load2 {r : LoadRect ⟨2, ![256, 7168]⟩} {hl : e.m2.view.LoadsAt r} :
    Runs defs e (Prog.lift (.load e.m2 r hl)) σ (rd e.X2 r) σ := by
  refine ⟨fun β K Q => ?_⟩
  unfold held
  iintro ⟨H1, H2, H3, H4, H5, H6, H7⟩ W
  iapply (owns_load Variants.none e.c.tc none Set.univ (Q := Q) (m := e.m2) (hl := hl) (k := K) fullShare e.X2) $$ H2
  iintro H2
  iapply W
  iframe

theorem load3 {r : LoadRect ⟨2, ![8, 16384]⟩} {hl : e.m3.view.LoadsAt r} :
    Runs defs e (Prog.lift (.load e.m3 r hl)) σ (rd e.X3 r) σ := by
  refine ⟨fun β K Q => ?_⟩
  unfold held
  iintro ⟨H1, H2, H3, H4, H5, H6, H7⟩ W
  iapply (owns_load Variants.none e.c.tc none Set.univ (Q := Q) (m := e.m3) (hl := hl) (k := K) fullShare e.X3) $$ H3
  iintro H3
  iapply W
  iframe

theorem load4 {r : LoadRect ⟨3, ![128, 128, 128]⟩} {hl : e.m4.view.LoadsAt r} :
    Runs defs e (Prog.lift (.load e.m4 r hl)) σ (rd e.X4 r) σ := by
  refine ⟨fun β K Q => ?_⟩
  unfold held
  iintro ⟨H1, H2, H3, H4, H5, H6, H7⟩ W
  iapply (owns_load Variants.none e.c.tc none Set.univ (Q := Q) (m := e.m4) (hl := hl) (k := K) fullShare e.X4) $$ H4
  iintro H4
  iapply W
  iframe

theorem load5 {r : LoadRect ⟨2, ![8, 7168]⟩} {hl : e.m5.view.LoadsAt r} :
    Runs defs e (Prog.lift (.load e.m5 r hl)) σ (rd σ.o r) σ := by
  refine ⟨fun β K Q => ?_⟩
  unfold held
  iintro ⟨H1, H2, H3, H4, H5, H6, H7⟩ W
  iapply (owns_load Variants.none e.c.tc none Set.univ (Q := Q) (m := e.m5) (hl := hl) (k := K) fullShare σ.o) $$ H5
  iintro H5
  iapply W
  iframe

theorem load6 {r : LoadRect ⟨2, ![456, 128]⟩} {hl : e.m6.view.LoadsAt r} :
    Runs defs e (Prog.lift (.load e.m6 r hl)) σ (rd σ.y r) σ := by
  refine ⟨fun β K Q => ?_⟩
  unfold held
  iintro ⟨H1, H2, H3, H4, H5, H6, H7⟩ W
  iapply (owns_load Variants.none e.c.tc none Set.univ (Q := Q) (m := e.m6) (hl := hl) (k := K) fullShare σ.y) $$ H6
  iintro H6
  iapply W
  iframe

theorem load7 {r : LoadRect ⟨3, ![2, 112, 256]⟩} {hl : e.m7.view.LoadsAt r} :
    Runs defs e (Prog.lift (.load e.m7 r hl)) σ (rd σ.a r) σ := by
  refine ⟨fun β K Q => ?_⟩
  unfold held
  iintro ⟨H1, H2, H3, H4, H5, H6, H7⟩ W
  iapply (owns_load Variants.none e.c.tc none Set.univ (Q := Q) (m := e.m7) (hl := hl) (k := K) fullShare σ.a) $$ H7
  iintro H7
  iapply W
  iframe

theorem store5 {r : Rect ⟨2, ![8, 7168]⟩} {w : r.shape.Idx → Val .bf16} {hx : (e.m5.access r).Stores Finset.univ}
    {hm : (Finset.univ : Finset r.shape.Idx) = Finset.univ ∨ ∀ a, r.stride a = 1} :
    Runs defs e (Prog.lift (.store e.m5 r w Finset.univ hx hm)) σ ⟨⟩ ⟨wr σ.o r w, σ.y, σ.a⟩ := by
  refine ⟨fun β K Q => ?_⟩
  unfold held
  iintro ⟨H1, H2, H3, H4, H5, H6, H7⟩ W
  iapply (owns_store Variants.none e.c.tc none Set.univ (Q := Q) (m := e.m5) (hx := hx) (hm := hm) (k := K) σ.o) $$ H5
  iintro H5
  iapply W
  iframe

theorem store6 {r : Rect ⟨2, ![456, 128]⟩} {w : r.shape.Idx → Val .i32} {hx : (e.m6.access r).Stores Finset.univ}
    {hm : (Finset.univ : Finset r.shape.Idx) = Finset.univ ∨ ∀ a, r.stride a = 1} :
    Runs defs e (Prog.lift (.store e.m6 r w Finset.univ hx hm)) σ ⟨⟩ ⟨σ.o, wr σ.y r w, σ.a⟩ := by
  refine ⟨fun β K Q => ?_⟩
  unfold held
  iintro ⟨H1, H2, H3, H4, H5, H6, H7⟩ W
  iapply (owns_store Variants.none e.c.tc none Set.univ (Q := Q) (m := e.m6) (hx := hx) (hm := hm) (k := K) σ.y) $$ H6
  iintro H6
  iapply W
  iframe

theorem store7 {r : Rect ⟨3, ![2, 112, 256]⟩} {w : r.shape.Idx → Val .f32} {hx : (e.m7.access r).Stores Finset.univ}
    {hm : (Finset.univ : Finset r.shape.Idx) = Finset.univ ∨ ∀ a, r.stride a = 1} :
    Runs defs e (Prog.lift (.store e.m7 r w Finset.univ hx hm)) σ ⟨⟩ ⟨σ.o, σ.y, wr σ.a r w⟩ := by
  refine ⟨fun β K Q => ?_⟩
  unfold held
  iintro ⟨H1, H2, H3, H4, H5, H6, H7⟩ W
  iapply (owns_store Variants.none e.c.tc none Set.univ (Q := Q) (m := e.m7) (hx := hx) (hm := hm) (k := K) σ.a) $$ H7
  iintro H7
  iapply W
  iframe

theorem assume {P : Prop} {d : Decidable P} (h : P) :
    Runs defs e (Prog.lift (.assume P d)) σ ⟨h⟩ σ := by
  refine ⟨fun β K Q => ?_⟩
  iintro H W
  iapply (wp_assume (defs := defs) Variants.none e.c.tc none Set.univ (Q := Q) (k := K) h)
  iapply W $$ H

theorem smem {r : Rect ⟨1, ![16384]⟩} {h1 : r.shape.numel = 1} {hp : EltTy.packing .i32 = 1} :
    Runs defs e (smemLoad e.m1 r h1 hp) σ (e.X1 (r.emb (Shape.Idx.first (h1.symm ▸ Nat.one_pos)))) σ := by
  refine ⟨fun β K Q => ?_⟩
  exact (load1 (defs := defs) (e := e) (σ := σ) (r := r.toLoadRect) (hl := View.loadsAt_rect (View.loads_smem_one hp h1))).run _
    (fun f => K (f (Shape.Idx.first (h1.symm ▸ Nat.one_pos)))) Q

/-- A counted loop that carries nothing: each trip `k` takes the contents from `s k` to `s (k + 1)`. -/
theorem loop {l : Scf.Loop 32} {hok : l.OK} {body : Fin l.trips → PUnit → Prog (TpuEff nD τ sig Val Λ .tc) PUnit} (s : ℕ → St Val)
    (h : ∀ k : Fin l.trips, Runs defs e (body k ⟨⟩) (s k.val) ⟨⟩ (s (k.val + 1))) :
    Runs defs e (Scf.Loop.for l hok ⟨⟩ body) (s 0) ⟨⟩ (s l.trips) := by
  show Runs defs e (Scf.for l.lb l.ub l.st hok ⟨⟩ body) (s 0) ⟨⟩ (s l.trips)
  rw [Scf.for_eq]
  have key : ∀ (ks : List (Fin l.trips)) (j : ℕ), (∀ i (hi : i < ks.length), (ks[i]).val = j + i) →
      Runs defs e (Scf.forFrom body ks ⟨⟩) (s j) ⟨⟩ (s (j + ks.length)) := by
    intro ks
    induction ks with
    | nil => intro j _; exact Runs.ret _
    | cons k ks ih =>
      intro j hj
      have hk : k.val = j := hj 0 (by simp)
      rw [Scf.forFrom_cons]
      have h₁ : Runs defs e (body k ⟨⟩) (s j) ⟨⟩ (s (j + 1)) := by have := h k; rwa [hk] at this
      refine Runs.bind (k := fun acc' => Scf.forFrom body ks acc') h₁ ?_
      have := ih (j + 1) (fun i hi => by
        have := hj (i + 1) (by simpa using hi)
        simpa [Nat.add_assoc, Nat.add_comm 1 i] using this)
      rw [List.length_cons, show j + (ks.length + 1) = j + 1 + ks.length by omega]
      exact this
  have h0 := key (List.finRange l.trips) 0 (by intro i hi; simp)
  rw [List.length_finRange, Nat.zero_add] at h0
  exact h0

/-- A branch on a condition, whose contents after it are those after the branch taken. -/
theorem dite {P : Prop} [d : Decidable P] {p : P → Prog (TpuEff nD τ sig Val Λ .tc) α} {q : ¬ P → Prog (TpuEff nD τ sig Val Λ .tc) α} {a : α}
    (h₁ : ∀ h : P, Runs defs e (p h) σ a σ₁) (h₂ : ∀ h : ¬ P, Runs defs e (q h) σ a σ₂) :
    Runs defs e (dite P p q) σ a (if P then σ₁ else σ₂) := by
  by_cases h : P
  · rw [dif_pos h, if_pos h]; exact h₁ h
  · rw [dif_neg h, if_neg h]; exact h₂ h

/-- A counted loop that carries nothing and whose trips run from any contents. -/
theorem loop_exists {l : Scf.Loop 32} {hok : l.OK} {body : Fin l.trips → PUnit → Prog (TpuEff nD τ sig Val Λ .tc) PUnit}
    (h : ∀ (k : Fin l.trips) (σ : St Val), ∃ σ', Runs defs e (body k ⟨⟩) σ ⟨⟩ σ') (σ : St Val) :
    Runs defs e (Scf.Loop.for l hok ⟨⟩ body) σ ⟨⟩
      (Nat.rec σ (fun k s => open Classical in if hk : k < l.trips then (h ⟨k, hk⟩ s).choose else s) l.trips) := by
  refine loop (fun n => Nat.rec σ (fun k s => open Classical in if hk : k < l.trips then (h ⟨k, hk⟩ s).choose else s) n) ?_
  intro k
  have := (h k (Nat.rec σ (fun k s => open Classical in if hk : k < l.trips then (h ⟨k, hk⟩ s).choose else s) k.val)).choose_spec
  simpa only [k.isLt, dite_true] using this

end Runs

end Cert.Hand

end
-- ==== Proof.BodyK.lean ====
/-
  The body of the kernel runs from any contents of its buffers, whenever every group number is below 128.
-/
module

public import proofs.«01_k».proof.Proof.Gen.Kernel.Skeleton
public import proofs.«01_k».proof.Proof.Runs

@[expose] public section

set_option maxRecDepth 65536
set_option maxHeartbeats 0

noncomputable section

namespace Cert.Hand.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The two rows of the table that a group number below 128 names lie in the table. -/
theorem chk_ok (v : BitVec 32) (h : v.toNat < 128) :
    (∀ a, (![v.toNat, 64, 0] : Fin 3 → Nat) a + S1x64x128.size a ≤ S128x128x128.size a) ∧
    (∀ a, (![v.toNat, 0, 0] : Fin 3 → Nat) a + S1x64x128.size a ≤ S128x128x128.size a) := by
  refine ⟨fun a => ?_, fun a => ?_⟩ <;> fin_cases a <;> simp [Shape.size] <;> omega

/-- One trip of the counted loop runs from any contents: every table row it reads lies in the table. -/
theorem trip (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (arg0 : BitVec 32) (v3 v4 : IVec S8x128 32) (v26 v48 v70 v92 v114 : IVec S8x128 1) (v119 : IVec S8x128 32) (v121 : BitVec 32) (v123 : IVec S8x128 32) (c0 : BitVec 32)
    (t : Fin k0_t1_loop.trips) (σ : St (Elt F)) :
    ∃ σ', Runs (defs₀ (F := F)) (⟨c, arg1, arg2, arg3, arg4, arg5, arg6, arg7, q1, X1, X2, X3, X4⟩ : Env nD τ sig (Elt F))
      (k0_t1_body i arg1 harg1 arg2 harg2 arg3 harg3 arg4 harg4 arg5 harg5 arg6 harg6 arg7 harg7 arg0 v3 v4 v26 v48 v70 v92 v114 v119 v121 v123 c0 t ⟨⟩) σ ⟨⟩ σ' := by
  apply (newGoals := .nonDependentOnly) Exists.intro
  repeat (first
    | with_reducible exact Runs.load6
    | with_reducible exact Runs.store6
    | with_reducible exact Runs.load2
    | with_reducible exact Runs.load4
    | with_reducible exact Runs.smem
    | with_reducible exact Runs.load3
    | with_reducible exact Runs.load7
    | with_reducible exact Runs.store7
    | with_reducible exact Runs.pure _
    | with_reducible apply (newGoals := .nonDependentOnly) Runs.bind
    | exact Runs.smem
    | exact Runs.assume (chk_ok _ (hX1 _))
    | apply (newGoals := .nonDependentOnly) Runs.bind
    | exact Runs.pure _)

/-- The whole body runs from any contents. -/
theorem body (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (σ : St (Elt F)) :
    ∃ σ', Runs (defs₀ (F := F)) (⟨c, arg1, arg2, arg3, arg4, arg5, arg6, arg7, q1, X1, X2, X3, X4⟩ : Env nD τ sig (Elt F))
      (cc0__body i arg1 harg1 arg2 harg2 arg3 harg3 arg4 harg4 arg5 harg5 arg6 harg6 arg7 harg7) σ ⟨⟩ σ' := by
  apply (newGoals := .nonDependentOnly) Exists.intro
  unfold cc0__body
  repeat (first
    | with_reducible exact Runs.load5
    | with_reducible exact Runs.store5
    | with_reducible exact Runs.load7
    | with_reducible exact Runs.store7
    | with_reducible exact Runs.load6
    | with_reducible exact Runs.store6
    | with_reducible exact Runs.pure _
    | with_reducible apply (newGoals := .nonDependentOnly) Runs.dite
    | intro _
    | with_reducible apply (newGoals := .nonDependentOnly) Runs.bind
    | exact Runs.loop_exists (fun t σ => trip c q1 i arg1 harg1 arg2 harg2 arg3 harg3 arg4 harg4 arg5 harg5 arg6 harg6 arg7 harg7 X1 X2 X3 X4 hX1 _ _ _ _ _ _ _ _ _ _ _ _ t σ) _
    | apply (newGoals := .nonDependentOnly) Runs.bind
    | apply (newGoals := .nonDependentOnly) Runs.dite
    | exact Runs.pure _)

end Cert.Hand.K

end
-- ==== Proof.LaunchK.lean ====
/-
  The kernel's host operations before the kernel call, and its frame: it ends, with no fault, its arguments as
  they were, whenever every group number is below 128.
-/
module

public import proofs.«01_k».proof.Proof.Gen.Kernel.Launch
public import proofs.«01_k».proof.Proof.BodyK
public import Idealize.ShloMosaic.Lib.Pipeline.Frame
public import Idealize.ShloMosaic.Lib.Pipeline.FrameBody

@[expose] public section

noncomputable section

namespace Cert.Hand.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [BitOps F]
variable (m : (ℓ : Loc nD τ sig) → Buf (Elt F) ℓ) (ρ : Dev nD → PrngReg)

/-- The host operations before the kernel call. -/
abbrev host : List (List (HloOp τ sig (Elt F))) := [hostOps0, hostOps0_1, hostOps0_2, hostOps0_3, hostOps0_4]

/-- What each buffer holds when the kernel call begins. -/
def V (c : Dev nD) (b : Ref sig .tc) : Buf (Elt F) ((c.tc : Thread nD τ).loc b) :=
  StableHlo.after (host (F := F)).flatten (fun b => m (c, b)) b

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main host
    ⟨hostOps0_sub, hostOps0_1_sub, hostOps0_2_sub, hostOps0_3_sub, hostOps0_4_sub⟩
    (by repeat' constructor) (fun c => main_chain c)

/-- The host operations write no argument. -/
theorem V_of_arg (c : Dev nD) {r : Ref sig .tc} (hr : r ∉ ([main_v0, main_c, main_v1, main_v2, main_v3, main_c_0, main_v4, main_v5, main_v6, main_v7, main_v8, main_c_1, main_call0_v0, main_v9, main_v10, main_v11, main_c_2, main_call1_v0, main_v12, main_v13, main_v14, main_v15] : List (Ref sig .tc))) :
    V m c r = m ((c.tc : Thread nD τ).loc r) :=
  StableHlo.after_of_writes_sub _ _ (StableHlo.forall_writes_sub_of_map rfl) hr

/-- The group numbers, as the kernel call's table. -/
def tbl : (p : Fin 1) → (pcfgs (F := F) p).Adm := fun p => ⟨fun k => V m 0 ((pcfgs (F := F) p).pre.ref k), by
  exact (ok0.eq_1 (F := F) (fun k => V m 0 (pre0.ref k))).mpr trivial⟩

/-- What the frame says of the run: nothing of the windows' blocks, and of the scratch only that it is held. -/
def dats (p : Fin 1) (c : Dev nD) : Dat τ (Elt F) Unit ℕ (UR sig nD τ) ℕ (Pipeline.pin pcfgs (tbl m) p) c where
  A w := V m c (Pipeline.arrRef (Pipeline.pin pcfgs (tbl m) p).spec w)
  after w t := Dat.unnamed w t
  Φ _ := iprop(Pipeline.ΦA (Pipeline.pin pcfgs (tbl m) p).spec c ∗ Pipeline.ΦT (pcfgs p).pre (tbl m p).1 c)
  q _ := fullShare
  owed _ := 0

theorem ΦT_eq (c : Dev nD) : (Pipeline.ΦT pre0 (tbl m 0).1 c : sProp (MM nD τ sig (Elt F)))
    = owns c.tc (Memref.whole main_arg4) (fullShare.right) (V m 0 main_arg4) := by
  rw [owns_whole]
  exact bigSep_univ_eq_bigSepL [(0 : Fin 1)] (by decide) (by decide) _

theorem scoped_eq (c : Dev nD) : (Pipeline.scopedRest spec0 c : sProp (MM nD τ sig (Elt F)))
    = iprop((∃ f, owns c.tc (Memref.whole cc0_scratch0) fullShare f) ∗ (∃ f, owns c.tc (Memref.whole cc0_scratch1) fullShare f)) := by
  rw [scopedRest0_eq]; simp only [owns_whole]

theorem Φ_eq (c : Dev nD) (s) : (dats m 0 c).Φ s = iprop((((∃ f, owns c.tc (Memref.whole cc0_scratch0) fullShare f) ∗ (∃ f, owns c.tc (Memref.whole cc0_scratch1) fullShare f))
      ∗ ∃ r, prngReg c r) ∗ owns c.tc (Memref.whole main_arg4) (fullShare.right) (V m 0 main_arg4)) := by
  rw [← scoped_eq, ← ΦT_eq]; rfl

theorem owes_eq (c : Dev nD) (s s') : (dats m 0 c).owesAt () s = (dats m 0 c).owesAt () s' := rfl

theorem body_ok (hX : ∀ x, (V m 0 main_arg4 x : BitVec 32).toNat < 128) (c : Dev nD) :
    Pipeline.BodyObligationLoose (dats m 0 c) (defs₀ (F := F)) Variants.none () Set.univ (fun _ => true) := fun t => by
  rw [Φ_eq, Φ_eq, owes_eq m c t.succ t.castSucc]
  erw [bigSep_W0]
  dsimp only
  iintro ⟨⟨⟨⟨⟨%f0, S0⟩, ⟨%f1, S1⟩⟩, R⟩, T⟩, ⟨Ow, ⟨%X1, W1⟩, ⟨%X2, W2⟩, ⟨%X3, W3⟩, ⟨%X4, W4⟩⟩⟩
  obtain ⟨σ', h⟩ := body (F := F) c fullShare.right (grid0.coords t) (Memref.whole main_arg4) (Memref.isWhole_whole _) (spec0_0.stage _) (hstage0_0 _) (spec0_1.stage _) (hstage0_1 _)
    (spec0_2.stage _) (hstage0_2 _) (spec0_3.stage _) (hstage0_3 _) (Memref.whole cc0_scratch0) (Memref.isWhole_whole _) (Memref.whole cc0_scratch1) (Memref.isWhole_whole _)
    (V m 0 main_arg4) X1 X2 X3 hX ⟨X4, f0, f1⟩
  iapply (h.last _) $$ [T W1 W2 W3 W4 S0 S1]
  · unfold held
    isplitl [T]; · iexact T
    isplitl [W1]; · iexact W1
    isplitl [W2]; · iexact W2
    isplitl [W3]; · iexact W3
    isplitl [W4]; · iexact W4
    isplitl [S0]; · iexact S0
    iexact S1
  · unfold held
    iintro ⟨T, W1, W2, W3, W4, S0, S1⟩
    isplitl [T S0 S1 R]
    · isplitl [S0 S1 R]
      · isplitl [S0 S1]
        · isplitl [S0]
          · iexists _; iexact S0
          · iexists _; iexact S1
        · iexact R
      · iexact T
    · isplitl [Ow]; · iexact Ow
      isplitl [W1]; · iexists _; iexact W1
      isplitl [W2]; · iexists _; iexact W2
      isplitl [W3]; · iexists _; iexact W3
      iexists _; iexact W4

/-- The program runs to its end, its arguments as they were and every semaphore at zero. -/
theorem frame (hX : ∀ x, (m (((0 : Dev nD).tc : Thread nD τ).loc main_arg4) x : BitVec 32).toNat < 128) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_frameP_forget pcfgs (tbl m) (dats m) 0 launch0 defs₀ Variants.none (fun _ => true) m ρ main
    (body_ok m (by rw [V_of_arg m 0 (by decide)]; exact hX)) (fun c => (dats m 0 c).share_full fun _ => rfl) (fun _ _ => rfl) (V m) (hmain m)
    (fun _ _ => rfl) (fun c k => by rw [Subsingleton.elim c 0]; rfl) (fun _ _ => rfl) _ (fun r h => ⟨fun c => ?_, h.2⟩)
  refine ⟨?_, ?_, ?_, ?_, ?_⟩
  · exact ((h.1 c).2 main_arg0 (Pipeline.mem_restRefs_of (win := spec0) main_arg0 (by decide) (by decide))).trans (V_of_arg m c (by decide))
  · exact (h.1.arr_in c (0 : Fin 4) rfl).trans (V_of_arg m c (r := main_arg1) (by decide))
  · exact ((h.1 c).2 main_arg2 (Pipeline.mem_restRefs_of (win := spec0) main_arg2 (by decide) (by decide))).trans (V_of_arg m c (by decide))
  · exact ((h.1 c).2 main_arg3 (Pipeline.mem_restRefs_of (win := spec0) main_arg3 (by decide) (by decide))).trans (V_of_arg m c (by decide))
  · exact ((h.1 c).2 main_arg4 (Pipeline.mem_restRefs_of (win := spec0) main_arg4 (by decide) (by decide))).trans (V_of_arg m c (by decide))

end Cert.Hand.K

end
-- ==== Proof.TripFn.lean ====
/-
  What one trip of the kernel's counted loop computes, as named functions of what its buffers hold: the relay of the
  packed codes, the eight code planes of one word row, one dequantized row, the masked activations, the products.
-/
module

public import proofs.«01_k».proof.Proof.Gen.KernelIdeal.Skeleton
public import proofs.«01_k».proof.Proof.Runs

@[expose] public section

set_option maxRecDepth 65536

noncomputable section

namespace Cert.Hand.KI

open Cert.KernelIdeal Cert.KernelIdeal.Gen
open Idealize.ShloMosaic Idealize.ShloMosaic.TcCoe

variable {F : FTy → Type} [FloatOps F]

/-- The trip's number as the loop counts it. -/
abbrev iv (t : Fin k0_t1_loop.trips) : BitVec 32 := Scf.iv 0#32 1#32 t

theorem iv_toNat (t : Fin k0_t1_loop.trips) : (iv t).toNat = t.val := by
  revert t; decide

/-- The block of packed codes that column `c` of the relay takes. -/
abbrev blockOff (t : Fin k0_t1_loop.trips) (c : ℕ) : Fin 2 → Nat :=
  ![(Scalar.indexCast (Scalar.muli (iv t) 32#32)).toNat, 128 * c]

theorem blockOff_inb (t : Fin k0_t1_loop.trips) (c : Fin 56) :
    ∀ a, (blockOff t c.val) a + S32x128.size a ≤ S256x7168.size a := by
  intro a
  have h1 : (Scalar.indexCast (Scalar.muli (iv t) 32#32)).toNat = 32 * t.val := by revert t; decide
  have ht : t.val < 8 := t.isLt
  have hc := c.isLt
  fin_cases a
  · show (Scalar.indexCast (Scalar.muli (iv t) 32#32)).toNat + 32 ≤ 256
    rw [h1]; omega
  · show 128 * c.val + 128 ≤ 7168
    omega

/-- Column `c` of the relay: rows `c`, `57 + c`, `114 + c`, … -/
abbrev relayRect (c : ℕ) (h : c < 56) : Rect S456x128 :=
  ⟨⟨![c, 0], S8x128.size, ![57, 1], by
    intro a
    fin_cases a
    · exact Or.inr (show c + 57 * (8 - 1) < 456 by omega)
    · exact Or.inr (show 0 + 1 * (128 - 1) < 128 by decide)⟩, spos_57_1⟩

/-- The words that column `c` of the relay takes. -/
abbrev relayVal (X2 : S256x7168.Idx → Elt F .i8) (t : Fin k0_t1_loop.trips) (c : ℕ) (h : c < 56) : IVec S8x128 32 :=
  shapeCast S8x128 (bitcast S8x128 32 (rd X2 (Rect.unit (s := S256x7168) (blockOff t c) S32x128.size (blockOff_inb t ⟨c, h⟩)).toLoadRect)
    bitcasts_S32x128_w8_S8x128_w32) shapeCasts_S8x128_S8x128

/-- The relay after its first `n` columns are written. -/
def relay (X2 : S256x7168.Idx → Elt F .i8) (t : Fin k0_t1_loop.trips) (Y : S456x128.Idx → Elt F .i32) : (n : ℕ) → n ≤ 56 → S456x128.Idx → Elt F .i32
  | 0, _ => Y
  | n + 1, h => wr (relay X2 t Y n (Nat.le_of_succ_le h)) (relayRect n h) (relayVal X2 t n h)

/-- Rows `57 s + 7 k …` of the relay, eight of them. -/
abbrev words (Y : S456x128.Idx → Elt F .i32) (s k : Fin 8) : IVec S8x128 32 :=
  rd Y (Rect.unit (s := S456x128) ![57 * s.val + 7 * k.val, 0] S8x128.size (by
    intro a
    have hs := s.isLt
    have hk := k.isLt
    fin_cases a
    · show 57 * s.val + 7 * k.val + 8 ≤ 456
      omega
    · show 0 + 128 ≤ 128
      omega)).toLoadRect

/-- Two word vectors, one after the other. -/
abbrev two (a b : IVec S8x128 32) : IVec S16x128 32 :=
  concatenate S16x128 0 [⟨S8x128, a⟩, ⟨S8x128, b⟩] concatenates_S8x128_S8x128_S16x128_d0

/-- The low halves of sixteen rows of words, packed. -/
def lo16 (a b : IVec S8x128 32) : IVec S8x128 32 :=
  bitcast S8x128 32 (trunci 16 (two a b) natLt_16_32) bitcasts_S16x128_w16_S8x128_w32
/-- The high halves of sixteen rows of words, packed. -/
def hi16 (a b : IVec S8x128 32) : IVec S8x128 32 :=
  bitcast S8x128 32 (trunci 16 (shrui (two a b) (broadcast S16x128 16#32)) natLt_16_32) bitcasts_S16x128_w16_S8x128_w32
/-- The low bytes of thirty-two rows of half words, packed. -/
def lo8 (a b : IVec S8x128 32) : IVec S8x128 32 :=
  bitcast S8x128 32 (trunci 8 (bitcast S32x128 16 (two a b) bitcasts_S16x128_w32_S32x128_w16) natLt_8_16) bitcasts_S32x128_w8_S8x128_w32
/-- The high bytes of thirty-two rows of half words, packed. -/
def hi8 (a b : IVec S8x128 32) : IVec S8x128 32 :=
  bitcast S8x128 32 (trunci 8 (bitcast S32x128 16 (shrui (two a b) (broadcast S16x128 8#32)) bitcasts_S16x128_w32_S32x128_w16) natLt_8_16) bitcasts_S32x128_w8_S8x128_w32
/-- The low nibbles of sixty-four rows of bytes. -/
def lo4 (a b : IVec S8x128 32) : IVec S64x128 4 :=
  trunci 4 (bitcast S64x128 8 (two a b) bitcasts_S16x128_w32_S64x128_w8) natLt_4_8
/-- The high nibbles of sixty-four rows of bytes. -/
def hi4 (a b : IVec S8x128 32) : IVec S64x128 4 :=
  trunci 4 (bitcast S64x128 8 (shrui (two a b) (broadcast S16x128 4#32)) bitcasts_S16x128_w32_S64x128_w8) natLt_4_8

/-- Half `b` (0 the low one) of the words, packed. -/
def half (b : Fin 2) (a a' : IVec S8x128 32) : IVec S8x128 32 :=
  match b with
  | ⟨0, _⟩ => lo16 a a'
  | ⟨1, _⟩ => hi16 a a'
/-- Byte `b` of the half words, packed. -/
def byte (b : Fin 2) (a a' : IVec S8x128 32) : IVec S8x128 32 :=
  match b with
  | ⟨0, _⟩ => lo8 a a'
  | ⟨1, _⟩ => hi8 a a'
/-- Nibble `b` of the bytes. -/
def nib (b : Fin 2) (a a' : IVec S8x128 32) : IVec S64x128 4 :=
  match b with
  | ⟨0, _⟩ => lo4 a a'
  | ⟨1, _⟩ => hi4 a a'

/-- The plane of codes in half `b₂`, byte `b₁`, nibble `b₀` of the words of word row `s`. -/
def plane (Y : S456x128.Idx → Elt F .i32) (s : Fin 8) (b₂ b₁ b₀ : Fin 2) : IVec S64x128 4 :=
  nib b₀ (byte b₁ (half b₂ (words Y s ⟨0, by decide⟩) (words Y s ⟨1, by decide⟩)) (half b₂ (words Y s ⟨2, by decide⟩) (words Y s ⟨3, by decide⟩)))
    (byte b₁ (half b₂ (words Y s ⟨4, by decide⟩) (words Y s ⟨5, by decide⟩)) (half b₂ (words Y s ⟨6, by decide⟩) (words Y s ⟨7, by decide⟩)))

/-- The first row of the slab, `64 (8 i + t)`, as the kernel computes it. -/
abbrev k0w (i : grid0.Coords) (t : Fin k0_t1_loop.trips) : BitVec 32 :=
  Scalar.muli (Scalar.addi (Scalar.muli (BitVec.ofNat 32 (i 0).val) 8#32) (iv t)) 64#32

theorem k0w_toNat (i : grid0.Coords) (t : Fin k0_t1_loop.trips) : (k0w i t).toNat = 64 * (8 * (i 0).val + t.val) := by
  have hi : (i 0).val < 32 := (i 0).isLt
  have ht : t.val < 8 := t.isLt
  have h := iv_toNat t
  show ((BitVec.ofNat 32 (i 0).val * 8#32 + iv t) * 64#32 : BitVec 32).toNat = _
  rw [BitVec.toNat_mul, BitVec.toNat_add, BitVec.toNat_mul, h, BitVec.toNat_ofNat]
  simp only [BitVec.toNat_ofNat]
  omega

/-- Where the group number of row `16 t' + r` of the slab lies. -/
abbrev groupOff (i : grid0.Coords) (t : Fin k0_t1_loop.trips) (t' r : ℕ) : Fin 1 → Nat :=
  ![(Scalar.indexCast (Scalar.addi (Scalar.addi (k0w i t) (BitVec.ofNat 32 (16 * t'))) (BitVec.ofNat 32 r))).toNat]

theorem groupOff_eq (i : grid0.Coords) (t : Fin k0_t1_loop.trips) (t' r : ℕ) (ht' : t' < 4) (hr : r < 16) :
    groupOff i t t' r 0 = 64 * (8 * (i 0).val + t.val) + 16 * t' + r := by
  have hi : (i 0).val < 32 := (i 0).isLt
  have ht : t.val < 8 := t.isLt
  show ((k0w i t + BitVec.ofNat 32 (16 * t') + BitVec.ofNat 32 r : BitVec 32)).toNat = _
  rw [BitVec.toNat_add, BitVec.toNat_add, k0w_toNat]
  simp only [BitVec.toNat_ofNat]
  omega

theorem groupOff_inb (i : grid0.Coords) (t : Fin k0_t1_loop.trips) (t' : Fin 4) (r : Fin 16) :
    ∀ a, (groupOff i t t'.val r.val) a + S1.size a ≤ S16384.size a := by
  intro a
  have hi : (i 0).val < 32 := (i 0).isLt
  have ht : t.val < 8 := t.isLt
  have h1 := t'.isLt
  have h2 := r.isLt
  fin_cases a
  show groupOff i t t'.val r.val 0 + 1 ≤ 16384
  rw [groupOff_eq i t _ _ h1 h2]; omega

/-- The group number of row `16 t' + r` of the slab. -/
abbrev group (X1 : S16384.Idx → Elt F .i32) (i : grid0.Coords) (t : Fin k0_t1_loop.trips) (t' : Fin 4) (r : Fin 16) : BitVec 32 :=
  X1 ((Rect.unit (s := S16384) (groupOff i t t'.val r.val) S1.size (groupOff_inb i t t' r)).emb (Shape.Idx.first (numel1_S1.symm ▸ Nat.one_pos)))

/-- Sixty-four table rows of group `g` from row `o`. -/
abbrev entry (X4 : S128x128x128.Idx → Elt F .bf16) (g : BitVec 32) (o : ℕ)
    (h : ∀ a, (![(Scalar.indexCast g).toNat, o, 0] : Fin 3 → Nat) a + S1x64x128.size a ≤ S128x128x128.size a) : FVec F S64x128 .bf16 :=
  shapeCast S64x128 (rd X4 (Rect.unit (s := S128x128x128) ![(Scalar.indexCast g).toNat, o, 0] S1x64x128.size h).toLoadRect) shapeCasts_S1x64x128_S64x128

theorem entry_inb (v : BitVec 32) (h : v.toNat < 128) (o : ℕ) (ho : o ≤ 64) :
    ∀ a, (![(Scalar.indexCast v).toNat, o, 0] : Fin 3 → Nat) a + S1x64x128.size a ≤ S128x128x128.size a := by
  intro a
  fin_cases a
  · show v.toNat + 1 ≤ 128
    omega
  · show o + 64 ≤ 128
    omega
  · show 0 + 128 ≤ 128
    omega

/-- One dequantized row of the slab: `(code - zero) * scale`. -/
def row (X1 : S16384.Idx → Elt F .i32) (X4 : S128x128x128.Idx → Elt F .bf16) (hX1 : ∀ x, (X1 x : BitVec 32).toNat < 128)
    (Y : S456x128.Idx → Elt F .i32) (i : grid0.Coords) (t : Fin k0_t1_loop.trips) (t' : Fin 4) (r : Fin 16) : FVec F S64x128 .bf16 :=
  mulf (subf (uitofp .bf16 (plane (F := F) Y ⟨2 * t'.val + r.val / 8, by omega⟩ ⟨r.val % 8 / 4, by omega⟩ ⟨r.val % 4 / 2, by omega⟩ ⟨r.val % 2, by omega⟩))
      (entry X4 (group (F := F) X1 i t t' r) 64 (entry_inb _ (hX1 _) 64 (by decide))))
    (entry X4 (group (F := F) X1 i t t' r) 0 (entry_inb _ (hX1 _) 0 (by decide)))

/-- Sixteen rows' pieces of sixteen packed rows each, one under the other. -/
def quarter (w : Fin 16 → FVec F S64x128 .bf16) (q : ℕ) (h : ∀ a, (![16 * q, 0] : Fin 2 → Nat) a + S16x128.size (a.cast rfl) ≤ S64x128.size a) : FVec F S256x128 .bf16 :=
  concatenate S256x128 0 [⟨S16x128, extractStridedSlice S16x128 ![16 * q, 0] (w ⟨0, by decide⟩) ⟨rfl, h⟩⟩, ⟨S16x128, extractStridedSlice S16x128 ![16 * q, 0] (w ⟨1, by decide⟩) ⟨rfl, h⟩⟩, ⟨S16x128, extractStridedSlice S16x128 ![16 * q, 0] (w ⟨2, by decide⟩) ⟨rfl, h⟩⟩, ⟨S16x128, extractStridedSlice S16x128 ![16 * q, 0] (w ⟨3, by decide⟩) ⟨rfl, h⟩⟩, ⟨S16x128, extractStridedSlice S16x128 ![16 * q, 0] (w ⟨4, by decide⟩) ⟨rfl, h⟩⟩, ⟨S16x128, extractStridedSlice S16x128 ![16 * q, 0] (w ⟨5, by decide⟩) ⟨rfl, h⟩⟩, ⟨S16x128, extractStridedSlice S16x128 ![16 * q, 0] (w ⟨6, by decide⟩) ⟨rfl, h⟩⟩, ⟨S16x128, extractStridedSlice S16x128 ![16 * q, 0] (w ⟨7, by decide⟩) ⟨rfl, h⟩⟩, ⟨S16x128, extractStridedSlice S16x128 ![16 * q, 0] (w ⟨8, by decide⟩) ⟨rfl, h⟩⟩, ⟨S16x128, extractStridedSlice S16x128 ![16 * q, 0] (w ⟨9, by decide⟩) ⟨rfl, h⟩⟩, ⟨S16x128, extractStridedSlice S16x128 ![16 * q, 0] (w ⟨10, by decide⟩) ⟨rfl, h⟩⟩, ⟨S16x128, extractStridedSlice S16x128 ![16 * q, 0] (w ⟨11, by decide⟩) ⟨rfl, h⟩⟩, ⟨S16x128, extractStridedSlice S16x128 ![16 * q, 0] (w ⟨12, by decide⟩) ⟨rfl, h⟩⟩, ⟨S16x128, extractStridedSlice S16x128 ![16 * q, 0] (w ⟨13, by decide⟩) ⟨rfl, h⟩⟩, ⟨S16x128, extractStridedSlice S16x128 ![16 * q, 0] (w ⟨14, by decide⟩) ⟨rfl, h⟩⟩, ⟨S16x128, extractStridedSlice S16x128 ![16 * q, 0] (w ⟨15, by decide⟩) ⟨rfl, h⟩⟩]
    concatenates_S16x128_S16x128_S16x128_S16x128_S16x128_S16x128_S16x128_S16x128_S16x128_S16x128_S16x128_S16x128_S16x128_S16x128_S16x128_S16x128_S256x128_d0

/-- The right operand of the first product: quarters 0 and 1 side by side. -/
def rhs0 (w : Fin 16 → FVec F S64x128 .bf16) : FVec F S256x256 .bf16 :=
  concatenate S256x256 1 [⟨S256x128, (quarter w 0 (slices_S64x128_o0_0_S16x128 : S64x128.Slices ![16 * 0, 0] S16x128).2)⟩, ⟨S256x128, (quarter w 1 (slices_S64x128_o16_0_S16x128 : S64x128.Slices ![16 * 1, 0] S16x128).2)⟩] concatenates_S256x128_S256x128_S256x256_d1
/-- The right operand of the second product: quarters 2 and 3 side by side. -/
def rhs1 (w : Fin 16 → FVec F S64x128 .bf16) : FVec F S256x256 .bf16 :=
  concatenate S256x256 1 [⟨S256x128, (quarter w 2 (slices_S64x128_o32_0_S16x128 : S64x128.Slices ![16 * 2, 0] S16x128).2)⟩, ⟨S256x128, (quarter w 3 (slices_S64x128_o48_0_S16x128 : S64x128.Slices ![16 * 3, 0] S16x128).2)⟩] concatenates_S256x128_S256x128_S256x256_d1

/-- Each lane's quotient by 16, rounded down. -/
def lane16 (v3 : IVec S8x128 32) : IVec S8x128 32 :=
  select
    (andi
      (cmpi .ne (subi (extui 32 (cmpi .sgt v3 (broadcast S8x128 0#32)) natLt_1_32) (extui 32 (cmpi .slt v3 (broadcast S8x128 0#32)) natLt_1_32))
        (broadcast S8x128 (Scalar.subi (Scalar.extui (Scalar.cmpi .sgt 16#32 0#32)) (Scalar.extui (Scalar.cmpi .slt 16#32 0#32)))))
      (cmpi .ne (remsi v3 (broadcast S8x128 16#32)) (broadcast S8x128 0#32)))
    (subi (divsi v3 (broadcast S8x128 16#32)) (broadcast S8x128 1#32))
    (divsi v3 (broadcast S8x128 16#32))

/-- The slab's first row within its block of 128 activations, as the kernel computes it. -/
def wordMod (v613 : BitVec 32) : BitVec 32 :=
  let m : BitVec 32 := Scalar.select (Scalar.cmpi .eq 128#32 0#32) 1#32 128#32
  let r : BitVec 32 := Scalar.remsi v613 m
  Scalar.select (Scalar.andi (Scalar.xori (Scalar.cmpi .slt r 0#32) (Scalar.cmpi .slt m 0#32)) (Scalar.cmpi .ne r 0#32)) (Scalar.addi r m) r

/-- Which activation each lane takes, for rows `16 t' + 8 h …` of the slab. -/
def laneIdx (v3 : IVec S8x128 32) (v613 : BitVec 32) (t' h : ℕ) : IVec S8x128 32 :=
  let b : IVec S8x128 32 := addi (addi (lane16 v3) (broadcast S8x128 (Scalar.addi (wordMod v613) (BitVec.ofNat 32 (16 * t'))))) (broadcast S8x128 (BitVec.ofNat 32 (8 * h)))
  select (cmpi .slt b (broadcast S8x128 0#32)) (addi b (broadcast S8x128 128#32)) b

/-- The activations that the lanes take, twice. -/
def taken (X : FVec F S8x128 .f32) (v3 : IVec S8x128 32) (v613 : BitVec 32) (t' h : ℕ) : FVec F S16x128 .bf16 :=
  let g : FVec F S8x128 .bf16 := truncf .bf16 (dynamicGather 1 X (shapeCast S8x128 (shapeCast S8x128x1 (laneIdx v3 v613 t' h) shapeCasts_S8x128_S8x128x1) shapeCasts_S8x128x1_S8x128)) bitsLt_bf16_f32
  concatenate S16x128 0 [⟨S8x128, g⟩, ⟨S8x128, g⟩] concatenates_S8x128_S8x128_S16x128_d0

/-- The lanes of a mask, zero elsewhere. -/
def kept (g : FVec F S16x128 .bf16) (m : IVec S8x128 1) : FVec F S16x128 .bf16 :=
  interleaveRows S16x128
    (select m (rowsOfParity 0 S8x128 g bitcasts_S16x128_w16_S8x128_w32) (constant S8x128 .bf16 0x0000#16))
    (select m (rowsOfParity 1 S8x128 g bitcasts_S16x128_w16_S8x128_w32) (constant S8x128 .bf16 0x0000#16)) bitcasts_S16x128_w16_S8x128_w32

/-- Half of the left operand: the taken activations under each of seven masks. -/
def lhsHalf (g : FVec F S16x128 .bf16) (m0 m1 m2 m3 m4 m5 m6 : IVec S8x128 1) : FVec F S112x128 .bf16 :=
  concatenate S112x128 0 [⟨S16x128, kept g m0⟩, ⟨S16x128, kept g m1⟩, ⟨S16x128, kept g m2⟩, ⟨S16x128, kept g m3⟩, ⟨S16x128, kept g m4⟩, ⟨S16x128, kept g m5⟩, ⟨S16x128, kept g m6⟩]
    concatenates_S16x128_S16x128_S16x128_S16x128_S16x128_S16x128_S16x128_S112x128_d0

/-- The left operand for rows `16 t' …` of the slab. -/
def lhs (X : FVec F S8x128 .f32) (v3 : IVec S8x128 32) (v613 : BitVec 32) (m0 m1 m2 m3 m4 m5 m6 : IVec S8x128 1) (t' : ℕ) : FVec F S112x256 .bf16 :=
  concatenate S112x256 1 [⟨S112x128, lhsHalf (taken X v3 v613 t' 0) m0 m1 m2 m3 m4 m5 m6⟩, ⟨S112x128, lhsHalf (taken X v3 v613 t' 1) m0 m1 m2 m3 m4 m5 m6⟩]
    concatenates_S112x128_S112x128_S112x256_d1

/-- One product with a zero start. -/
def prod (l : FVec F S112x256 .bf16) (r : FVec F S256x256 .bf16) : FVec F S112x256 .f32 :=
  matmul dot_S112x256_S256x256_S112x256_1_0_0_1_n_n none l r (constant S112x256 .f32 0x00000000#32)

/-- The block of 128 activations of the slab. -/
def acts (X3 : S8x16384.Idx → Elt F .bf16) (i : grid0.Coords) (t : Fin k0_t1_loop.trips) : FVec F S8x128 .f32 :=
  extf .f32 (shapeCast S8x128 (rd X3 (Rect.unit (s := S8x16384) (k0_off57 i t) S8x128.size (k0_off57_inb i t)).toLoadRect) shapeCasts_S8x128_S8x128) bitsLt_bf16_f32

/-- The mask of the rows of pieces `a` and `b`: lanes that are `a` (rows below 4) or `b` modulo 16. -/
def mask (v3 v4 : IVec S8x128 32) (a b : BitVec 32) : IVec S8x128 1 :=
  let m : BitVec 32 := Scalar.select (Scalar.cmpi .eq 16#32 0#32) 1#32 16#32
  let r : IVec S8x128 32 := remsi v3 (broadcast S8x128 m)
  cmpi .eq
    (select (andi (xori (cmpi .slt r (broadcast S8x128 0#32)) (broadcastTo S8x128 (broadcast S8x128 (Scalar.cmpi .slt m 0#32)) broadcasts_S8x128_S8x128)) (cmpi .ne r (broadcast S8x128 0#32)))
      (addi r (broadcast S8x128 m)) r)
    (select (cmpi .slt v4 (broadcast S8x128 4#32)) (broadcast S8x128 a) (broadcast S8x128 b))

/-- Four products, summed. -/
abbrev sum4 (p : Fin 4 → FVec F S112x256 .f32) : FVec F S112x256 .f32 :=
  addf (addf (addf (p ⟨0, by decide⟩) (p ⟨1, by decide⟩)) (p ⟨2, by decide⟩)) (p ⟨3, by decide⟩)

/-- Accumulator `n` of two. -/
abbrev accRect (n : ℕ) (h : n < 2) : Rect S2x112x256 :=
  Rect.unit (s := S2x112x256) ![n, 0, 0] S1x112x256.size (by
    intro a
    fin_cases a
    · show n + 1 ≤ 2
      omega
    · show 0 + 112 ≤ 112
      omega
    · show 0 + 256 ≤ 256
      omega)

/-- An accumulator with a value added. -/
abbrev accAdd (a : S2x112x256.Idx → Elt F .f32) (n : ℕ) (h : n < 2) (v : FVec F S112x256 .f32) : S2x112x256.Idx → Elt F .f32 :=
  wr a (accRect n h) (shapeCast S1x112x256 (addf (shapeCast S112x256 (rd a (accRect n h).toLoadRect) shapeCasts_S1x112x256_S112x256) v) shapeCasts_S112x256_S1x112x256)

/-- The iota along the lanes, and along the rows. -/
abbrev lanes : IVec S8x128 32 := iota .tc S8x128 32 [1] iota_S8x128_d1_w32
abbrev rows8 : IVec S8x128 32 := iota .tc S8x128 32 [0] iota_S8x128_d0_w32

/-- The left operand of the products `t'` of a trip. -/
def left (X3 : S8x16384.Idx → Elt F .bf16) (i : grid0.Coords) (t : Fin k0_t1_loop.trips) (t' : ℕ) : FVec F S112x256 .bf16 :=
  lhs (acts X3 i t) lanes (k0w i t) (mask lanes rows8 0#32 1#32) (mask lanes rows8 2#32 3#32) (mask lanes rows8 4#32 5#32) (mask lanes rows8 6#32 8#32)
    (mask lanes rows8 9#32 10#32) (mask lanes rows8 11#32 12#32) (mask lanes rows8 13#32 14#32) t'

/-- The accumulators after one trip over the relay `Y`. -/
def tripA (X1 : S16384.Idx → Elt F .i32) (X3 : S8x16384.Idx → Elt F .bf16) (X4 : S128x128x128.Idx → Elt F .bf16) (hX1 : ∀ x, (X1 x : BitVec 32).toNat < 128)
    (i : grid0.Coords) (t : Fin k0_t1_loop.trips) (Y : S456x128.Idx → Elt F .i32) (a : S2x112x256.Idx → Elt F .f32) : S2x112x256.Idx → Elt F .f32 :=
  accAdd (accAdd a 0 (by decide) (sum4 fun t' => prod (left X3 i t t'.val) (rhs0 (row X1 X4 hX1 Y i t t'))))
    1 (by decide) (sum4 fun t' => prod (left X3 i t t'.val) (rhs1 (row X1 X4 hX1 Y i t t')))

/-- The buffers after one trip. -/
def tripOut (X1 : S16384.Idx → Elt F .i32) (X2 : S256x7168.Idx → Elt F .i8) (X3 : S8x16384.Idx → Elt F .bf16) (X4 : S128x128x128.Idx → Elt F .bf16) (hX1 : ∀ x, (X1 x : BitVec 32).toNat < 128)
    (i : grid0.Coords) (t : Fin k0_t1_loop.trips) (σ : St (Elt F)) : St (Elt F) :=
  ⟨σ.o, relay X2 t σ.y 56 (le_refl _), tripA X1 X3 X4 hX1 i t (relay X2 t σ.y 56 (le_refl _)) σ.a⟩

end Cert.Hand.KI

end
-- ==== Proof.TripKI.lean ====
/-
  One trip of the idealized kernel's counted loop, run: the contents it leaves are found along the way.
-/
module

public import proofs.«01_k».proof.Proof.Gen.KernelIdeal.Skeleton
public import proofs.«01_k».proof.Proof.Runs
public import proofs.«01_k».proof.Proof.TripFn

@[expose] public section

set_option maxRecDepth 65536
set_option maxHeartbeats 0

noncomputable section

namespace Cert.Hand.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The two rows of the table that a group number below 128 names lie in the table. -/
theorem chk_ok (v : BitVec 32) (h : v.toNat < 128) :
    (∀ a, (![v.toNat, 64, 0] : Fin 3 → Nat) a + S1x64x128.size a ≤ S128x128x128.size a) ∧
    (∀ a, (![v.toNat, 0, 0] : Fin 3 → Nat) a + S1x64x128.size a ≤ S128x128x128.size a) := by
  refine ⟨fun a => ?_, fun a => ?_⟩ <;> fin_cases a <;> simp [Shape.size] <;> omega

/-- The same contents, named otherwise. -/
theorem _root_.Cert.Hand.Runs.recast {nD : Nat} {τ : Topo} {sig : RefSig} {Val : EltTy → Type} {Λ : Labels} {defs : Defs nD τ sig Val Λ} {e : Env nD τ sig Val}
    {α : Type} {p : Prog (TpuEff nD τ sig Val Λ .tc) α} {σ σ' σ'' : St Val} {a : α} (h : σ = σ') (r : Runs defs e p σ' a σ'') : Runs defs e p σ a σ'' :=
  h ▸ r

/-- One trip of the counted loop runs from any contents: every table row it reads lies in the table. -/
def tripW (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (arg0 : BitVec 32) (v3 v4 : IVec S8x128 32) (v26 v48 v70 v92 v114 : IVec S8x128 1) (v119 : IVec S8x128 32) (v121 : BitVec 32) (v123 : IVec S8x128 32) (c0 : BitVec 32)
    (t : Fin k0_t1_loop.trips) (σ : St (Elt F)) :
    { σ' : St (Elt F) // Runs (defs₀ (F := F)) (⟨c, arg1, arg2, arg3, arg4, arg5, arg6, arg7, q1, X1, X2, X3, X4⟩ : Env nD τ sig (Elt F))
      (k0_t1_body i arg1 harg1 arg2 harg2 arg3 harg3 arg4 harg4 arg5 harg5 arg6 harg6 arg7 harg7 arg0 v3 v4 v26 v48 v70 v92 v114 v119 v121 v123 c0 t ⟨⟩) σ ⟨⟩ σ' } := by
  apply (newGoals := .nonDependentOnly) Subtype.mk
  iterate 56
    repeat (
      fail_if_success (with_reducible exact Runs.store6)
      first
        | with_reducible exact Runs.load6
        | with_reducible exact Runs.load2
        | with_reducible exact Runs.smem
        | with_reducible exact Runs.pure _
        | with_reducible apply (newGoals := .nonDependentOnly) Runs.bind
        | apply (newGoals := .nonDependentOnly) Runs.bind)
    with_reducible exact Runs.store6
  apply (newGoals := .nonDependentOnly) Runs.recast (σ' := ⟨σ.o, relay X2 t σ.y 56 (le_refl _), σ.a⟩)
  · rfl
  repeat (first
    | with_reducible exact Runs.load6
    | with_reducible exact Runs.store6
    | with_reducible exact Runs.load2
    | with_reducible exact Runs.load4
    | with_reducible exact Runs.smem
    | with_reducible exact Runs.load3
    | with_reducible exact Runs.load7
    | with_reducible exact Runs.store7
    | with_reducible exact Runs.pure _
    | with_reducible apply (newGoals := .nonDependentOnly) Runs.bind
    | exact Runs.smem
    | exact Runs.assume (chk_ok _ (hX1 _))
    | apply (newGoals := .nonDependentOnly) Runs.bind
    | exact Runs.pure _)

end Cert.Hand.KI

end
-- ==== Proof.BodyKI.lean ====
/-
  The body of the idealized kernel runs from any contents of its buffers, whenever every group number is below 128.
-/
module

public import proofs.«01_k».proof.Proof.Gen.KernelIdeal.Skeleton
public import proofs.«01_k».proof.Proof.Runs
public import proofs.«01_k».proof.Proof.TripKI

@[expose] public section

set_option maxRecDepth 65536
set_option maxHeartbeats 0

noncomputable section

namespace Cert.Hand.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip of the counted loop runs from any contents: every table row it reads lies in the table. -/
theorem trip (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (arg0 : BitVec 32) (v3 v4 : IVec S8x128 32) (v26 v48 v70 v92 v114 : IVec S8x128 1) (v119 : IVec S8x128 32) (v121 : BitVec 32) (v123 : IVec S8x128 32) (c0 : BitVec 32)
    (t : Fin k0_t1_loop.trips) (σ : St (Elt F)) :
    ∃ σ', Runs (defs₀ (F := F)) (⟨c, arg1, arg2, arg3, arg4, arg5, arg6, arg7, q1, X1, X2, X3, X4⟩ : Env nD τ sig (Elt F))
      (k0_t1_body i arg1 harg1 arg2 harg2 arg3 harg3 arg4 harg4 arg5 harg5 arg6 harg6 arg7 harg7 arg0 v3 v4 v26 v48 v70 v92 v114 v119 v121 v123 c0 t ⟨⟩) σ ⟨⟩ σ' := by
  apply (newGoals := .nonDependentOnly) Exists.intro
  repeat (first
    | with_reducible exact Runs.load6
    | with_reducible exact Runs.store6
    | with_reducible exact Runs.load2
    | with_reducible exact Runs.load4
    | with_reducible exact Runs.smem
    | with_reducible exact Runs.load3
    | with_reducible exact Runs.load7
    | with_reducible exact Runs.store7
    | with_reducible exact Runs.pure _
    | with_reducible apply (newGoals := .nonDependentOnly) Runs.bind
    | exact Runs.smem
    | exact Runs.assume (chk_ok _ (hX1 _))
    | apply (newGoals := .nonDependentOnly) Runs.bind
    | exact Runs.pure _)

/-- The whole body runs from any contents. -/
theorem body (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (σ : St (Elt F)) :
    ∃ σ', Runs (defs₀ (F := F)) (⟨c, arg1, arg2, arg3, arg4, arg5, arg6, arg7, q1, X1, X2, X3, X4⟩ : Env nD τ sig (Elt F))
      (cc0__body i arg1 harg1 arg2 harg2 arg3 harg3 arg4 harg4 arg5 harg5 arg6 harg6 arg7 harg7) σ ⟨⟩ σ' := by
  apply (newGoals := .nonDependentOnly) Exists.intro
  unfold cc0__body
  repeat (first
    | with_reducible exact Runs.load5
    | with_reducible exact Runs.store5
    | with_reducible exact Runs.load7
    | with_reducible exact Runs.store7
    | with_reducible exact Runs.load6
    | with_reducible exact Runs.store6
    | with_reducible exact Runs.pure _
    | with_reducible apply (newGoals := .nonDependentOnly) Runs.dite
    | intro _
    | with_reducible apply (newGoals := .nonDependentOnly) Runs.bind
    | exact Runs.loop_exists (fun t σ => trip c q1 i arg1 harg1 arg2 harg2 arg3 harg3 arg4 harg4 arg5 harg5 arg6 harg6 arg7 harg7 X1 X2 X3 X4 hX1 _ _ _ _ _ _ _ _ _ _ _ _ t σ) _
    | apply (newGoals := .nonDependentOnly) Runs.bind
    | apply (newGoals := .nonDependentOnly) Runs.dite
    | exact Runs.pure _)

end Cert.Hand.KI

end
-- ==== Proof.LaunchKI.lean ====
/-
  The idealized kernel's host operations before the kernel call, and its frame: it ends, with no fault, its arguments as
  they were, whenever every group number is below 128.
-/
module

public import proofs.«01_k».proof.Proof.Gen.KernelIdeal.Launch
public import proofs.«01_k».proof.Proof.BodyKI
public import Idealize.ShloMosaic.Lib.Pipeline.Frame
public import Idealize.ShloMosaic.Lib.Pipeline.FrameBody

@[expose] public section

noncomputable section

namespace Cert.Hand.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ) (ρ : Dev nD → PrngReg)

/-- The host operations before the kernel call. -/
abbrev host : List (List (HloOp τ sig (Elt F))) := [hostOps0, hostOps0_1, hostOps0_2, hostOps0_3, hostOps0_4]

/-- What each buffer holds when the kernel call begins. -/
def V (c : Dev nD) (b : Ref sig .tc) : Buf (Elt F) ((c.tc : Thread nD τ).loc b) :=
  StableHlo.after (host (F := F)).flatten (fun b => m (c, b)) b

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main host
    ⟨hostOps0_sub, hostOps0_1_sub, hostOps0_2_sub, hostOps0_3_sub, hostOps0_4_sub⟩
    (by repeat' constructor) (fun c => main_chain c)

/-- The host operations write no argument. -/
theorem V_of_arg (c : Dev nD) {r : Ref sig .tc} (hr : r ∉ ([main_v0, main_c, main_v1, main_v2, main_v3, main_c_0, main_v4, main_v5, main_v6, main_v7, main_v8, main_c_1, main_call0_v0, main_v9, main_v10, main_v11, main_c_2, main_call1_v0, main_v12, main_v13, main_v14, main_v15] : List (Ref sig .tc))) :
    V m c r = m ((c.tc : Thread nD τ).loc r) :=
  StableHlo.after_of_writes_sub _ _ (StableHlo.forall_writes_sub_of_map rfl) hr

/-- The group numbers, as the kernel call's table. -/
def tbl : (p : Fin 1) → (pcfgs (F := F) p).Adm := fun p => ⟨fun k => V m 0 ((pcfgs (F := F) p).pre.ref k), by
  exact (ok0.eq_1 (F := F) (fun k => V m 0 (pre0.ref k))).mpr trivial⟩

/-- What the frame says of the run: nothing of the windows' blocks, and of the scratch only that it is held. -/
def dats (p : Fin 1) (c : Dev nD) : Dat τ (Elt F) Unit ℕ (UR sig nD τ) ℕ (Pipeline.pin pcfgs (tbl m) p) c where
  A w := V m c (Pipeline.arrRef (Pipeline.pin pcfgs (tbl m) p).spec w)
  after w t := Dat.unnamed w t
  Φ _ := iprop(Pipeline.ΦA (Pipeline.pin pcfgs (tbl m) p).spec c ∗ Pipeline.ΦT (pcfgs p).pre (tbl m p).1 c)
  q _ := fullShare
  owed _ := 0

theorem ΦT_eq (c : Dev nD) : (Pipeline.ΦT pre0 (tbl m 0).1 c : sProp (MM nD τ sig (Elt F)))
    = owns c.tc (Memref.whole main_arg4) (fullShare.right) (V m 0 main_arg4) := by
  rw [owns_whole]
  exact bigSep_univ_eq_bigSepL [(0 : Fin 1)] (by decide) (by decide) _

theorem scoped_eq (c : Dev nD) : (Pipeline.scopedRest spec0 c : sProp (MM nD τ sig (Elt F)))
    = iprop((∃ f, owns c.tc (Memref.whole cc0_scratch0) fullShare f) ∗ (∃ f, owns c.tc (Memref.whole cc0_scratch1) fullShare f)) := by
  rw [scopedRest0_eq]; simp only [owns_whole]

theorem Φ_eq (c : Dev nD) (s) : (dats m 0 c).Φ s = iprop((((∃ f, owns c.tc (Memref.whole cc0_scratch0) fullShare f) ∗ (∃ f, owns c.tc (Memref.whole cc0_scratch1) fullShare f))
      ∗ ∃ r, prngReg c r) ∗ owns c.tc (Memref.whole main_arg4) (fullShare.right) (V m 0 main_arg4)) := by
  rw [← scoped_eq, ← ΦT_eq]; rfl

theorem owes_eq (c : Dev nD) (s s') : (dats m 0 c).owesAt () s = (dats m 0 c).owesAt () s' := rfl

theorem body_ok (hX : ∀ x, (V m 0 main_arg4 x : BitVec 32).toNat < 128) (c : Dev nD) :
    Pipeline.BodyObligationLoose (dats m 0 c) (defs₀ (F := F)) Variants.none () Set.univ (fun _ => true) := fun t => by
  rw [Φ_eq, Φ_eq, owes_eq m c t.succ t.castSucc]
  erw [bigSep_W0]
  dsimp only
  iintro ⟨⟨⟨⟨⟨%f0, S0⟩, ⟨%f1, S1⟩⟩, R⟩, T⟩, ⟨Ow, ⟨%X1, W1⟩, ⟨%X2, W2⟩, ⟨%X3, W3⟩, ⟨%X4, W4⟩⟩⟩
  obtain ⟨σ', h⟩ := body (F := F) c fullShare.right (grid0.coords t) (Memref.whole main_arg4) (Memref.isWhole_whole _) (spec0_0.stage _) (hstage0_0 _) (spec0_1.stage _) (hstage0_1 _)
    (spec0_2.stage _) (hstage0_2 _) (spec0_3.stage _) (hstage0_3 _) (Memref.whole cc0_scratch0) (Memref.isWhole_whole _) (Memref.whole cc0_scratch1) (Memref.isWhole_whole _)
    (V m 0 main_arg4) X1 X2 X3 hX ⟨X4, f0, f1⟩
  iapply (h.last _) $$ [T W1 W2 W3 W4 S0 S1]
  · unfold held
    isplitl [T]; · iexact T
    isplitl [W1]; · iexact W1
    isplitl [W2]; · iexact W2
    isplitl [W3]; · iexact W3
    isplitl [W4]; · iexact W4
    isplitl [S0]; · iexact S0
    iexact S1
  · unfold held
    iintro ⟨T, W1, W2, W3, W4, S0, S1⟩
    isplitl [T S0 S1 R]
    · isplitl [S0 S1 R]
      · isplitl [S0 S1]
        · isplitl [S0]
          · iexists _; iexact S0
          · iexists _; iexact S1
        · iexact R
      · iexact T
    · isplitl [Ow]; · iexact Ow
      isplitl [W1]; · iexists _; iexact W1
      isplitl [W2]; · iexists _; iexact W2
      isplitl [W3]; · iexists _; iexact W3
      iexists _; iexact W4

/-- The program runs to its end, its arguments as they were and every semaphore at zero. -/
theorem frame (hX : ∀ x, (m (((0 : Dev nD).tc : Thread nD τ).loc main_arg4) x : BitVec 32).toNat < 128) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_frameP_forget pcfgs (tbl m) (dats m) 0 launch0 defs₀ Variants.none (fun _ => true) m ρ main
    (body_ok m (by rw [V_of_arg m 0 (by decide)]; exact hX)) (fun c => (dats m 0 c).share_full fun _ => rfl) (fun _ _ => rfl) (V m) (hmain m)
    (fun _ _ => rfl) (fun c k => by rw [Subsingleton.elim c 0]; rfl) (fun _ _ => rfl) _ (fun r h => ⟨fun c => ?_, h.2⟩)
  refine ⟨?_, ?_, ?_, ?_, ?_⟩
  · exact ((h.1 c).2 main_arg0 (Pipeline.mem_restRefs_of (win := spec0) main_arg0 (by decide) (by decide))).trans (V_of_arg m c (by decide))
  · exact (h.1.arr_in c (0 : Fin 4) rfl).trans (V_of_arg m c (r := main_arg1) (by decide))
  · exact ((h.1 c).2 main_arg2 (Pipeline.mem_restRefs_of (win := spec0) main_arg2 (by decide) (by decide))).trans (V_of_arg m c (by decide))
  · exact ((h.1 c).2 main_arg3 (Pipeline.mem_restRefs_of (win := spec0) main_arg3 (by decide) (by decide))).trans (V_of_arg m c (by decide))
  · exact ((h.1 c).2 main_arg4 (Pipeline.mem_restRefs_of (win := spec0) main_arg4 (by decide) (by decide))).trans (V_of_arg m c (by decide))

end Cert.Hand.KI

end
-- ==== Proof.TripEq.lean ====
/-
  The contents one trip leaves, found by running it, are the named functions of the contents before it.
-/
module

public import proofs.«01_k».proof.Proof.TripFn
public import proofs.«01_k».proof.Proof.TripKI

@[expose] public section

set_option maxRecDepth 65536
set_option maxHeartbeats 0

noncomputable section

namespace Cert.Hand.KI

open Cert.KernelIdeal Cert.KernelIdeal.Gen
open Idealize.ShloMosaic Idealize.ShloMosaic.TcCoe Idealize.ShloMosaic.Tactic
open Idealize.SL Idealize.SL.RA

variable {F : FTy → Type} [FloatOps F]

/-- One trip leaves what `tripOut` says. -/
theorem tripW_eq (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (t : Fin k0_t1_loop.trips) (σ : St (Elt F)) :
    (tripW c q1 i arg1 harg1 arg2 harg2 arg3 harg3 arg4 harg4 arg5 harg5 arg6 harg6 arg7 harg7 X1 X2 X3 X4 hX1 (BitVec.ofNat 32 (i 0).val) lanes rows8 (mask lanes rows8 0#32 1#32) (mask lanes rows8 2#32 3#32) (mask lanes rows8 4#32 5#32) (mask lanes rows8 6#32 8#32)
      (mask lanes rows8 9#32 10#32) (select (cmpi .slt rows8 (broadcast S8x128 4#32)) (broadcast S8x128 11#32) (broadcast S8x128 12#32))
      (Scalar.select (Scalar.cmpi .eq 16#32 0#32) 1#32 16#32) (remsi lanes (broadcast S8x128 (Scalar.select (Scalar.cmpi .eq 16#32 0#32) 1#32 16#32))) 0#32 t σ).1 = tripOut X1 X2 X3 X4 hX1 i t σ := by
  unfold tripW
  dsimp only
  rfl

end Cert.Hand.KI

end
-- ==== Proof.BodyFn.lean ====
/-
  What the whole body computes, as a function of what its buffers hold: the two scratch buffers cleared at the first
  grid step, eight trips, and at the last grid step the accumulators' pieces stored to the output block.
-/
module

public import proofs.«01_k».proof.Proof.TripFn

@[expose] public section

set_option maxRecDepth 65536

noncomputable section

namespace Cert.Hand

open Idealize.ShloMosaic Idealize.ShloMosaic.TcCoe Idealize.ShloMosaic.Tactic
open Idealize.SL Idealize.SL.RA Idealize.SL.Sem

/-- The contents after the first `n` trips, each of which changes them by `f`. -/
def iter {Val : EltTy → Type} {N : ℕ} (f : Fin N → St Val → St Val) (σ : St Val) : ℕ → St Val
  | 0 => σ
  | n + 1 => if h : n < N then f ⟨n, h⟩ (iter f σ n) else iter f σ n

/-- A counted loop that carries nothing, each trip of which changes the contents by `f`. -/
theorem Runs.loop_fn {nD : Nat} {τ : Topo} {sig : RefSig} {Val : EltTy → Type} {Λ : Labels} {defs : Defs nD τ sig Val Λ} {e : Env nD τ sig Val}
    {l : Scf.Loop 32} {hok : l.OK} {body : Fin l.trips → PUnit → Prog (TpuEff nD τ sig Val Λ .tc) PUnit} (f : Fin l.trips → St Val → St Val)
    (h : ∀ (k : Fin l.trips) (σ : St Val), Runs defs e (body k ⟨⟩) σ ⟨⟩ (f k σ)) (σ : St Val) :
    Runs defs e (Scf.Loop.for l hok ⟨⟩ body) σ ⟨⟩ (iter f σ l.trips) := by
  refine Runs.loop (iter f σ) fun k => ?_
  have := h k (iter f σ k.val)
  rw [iter, dif_pos k.isLt]
  exact this

end Cert.Hand

namespace Cert.Hand.KI

open Cert.KernelIdeal Cert.KernelIdeal.Gen
open Idealize.ShloMosaic Idealize.ShloMosaic.TcCoe

variable {F : FTy → Type} [FloatOps F]

/-- The buffers once the first grid step has cleared the scratch. -/
def start (i : grid0.Coords) (σ : St (Elt F)) : St (Elt F) :=
  if Scalar.cmpi .ne (Scalar.extui (Scalar.cmpi .eq (BitVec.ofNat 32 (i 0).val) 0#32) : BitVec 32) 0#32 = 1#1 then
    ⟨σ.o, wr σ.y (Rect.unit (s := S456x128) ![0, 0] S456x128.size inb_S456x128_S456x128_0_0) k0_pay754,
      wr σ.a (Rect.unit (s := S2x112x256) ![0, 0, 0] S2x112x256.size inb_S2x112x256_S2x112x256_0_0_0) (k0_pay755 (F := F))⟩
  else σ

/-- Columns `128 c …` of the output block. -/
abbrev outRect (c : ℕ) (h : c < 56) : Rect S8x7168 :=
  Rect.unit (s := S8x7168) ![0, 128 * c] S8x128.size (by
    intro a
    fin_cases a
    · show 0 + 8 ≤ 8
      decide
    · show 128 * c + 128 ≤ 7168
      omega)

/-- The piece of the accumulators that goes there. -/
abbrev outVal (a : S2x112x256.Idx → Elt F .f32) (c : ℕ) (h : c < 56) : FVec F S8x128 .bf16 :=
  truncf .bf16 (extractStridedSlice S8x128 ![56 * (c / 7 % 2) + 8 * (c % 7), 128 * (c / 14 % 2)]
    (shapeCast S112x256 (rd a (accRect (c / 28) (by omega)).toLoadRect) shapeCasts_S1x112x256_S112x256 : FVec F S112x256 .f32)
    ⟨rfl, by
      intro a
      fin_cases a
      · show 56 * (c / 7 % 2) + 8 * (c % 7) + 8 ≤ 112
        omega
      · show 128 * (c / 14 % 2) + 128 ≤ 256
        omega⟩) bitsLt_bf16_f32

/-- The output block after its first `n` pieces are stored. -/
def outs (a : S2x112x256.Idx → Elt F .f32) (o : S8x7168.Idx → Elt F .bf16) : (n : ℕ) → n ≤ 56 → S8x7168.Idx → Elt F .bf16
  | 0, _ => o
  | n + 1, h => wr (outs a o n (Nat.le_of_succ_le h)) (outRect n h) (outVal a n h)

/-- The buffers after the eight trips of a grid step. -/
def trips (X1 : S16384.Idx → Elt F .i32) (X2 : S256x7168.Idx → Elt F .i8) (X3 : S8x16384.Idx → Elt F .bf16) (X4 : S128x128x128.Idx → Elt F .bf16) (hX1 : ∀ x, (X1 x : BitVec 32).toNat < 128)
    (i : grid0.Coords) (σ : St (Elt F)) : St (Elt F) :=
  iter (fun t σ => tripOut X1 X2 X3 X4 hX1 i t σ) (start i σ) k0_t1_loop.trips

/-- The buffers after the last step's stores. -/
def finish (σ : St (Elt F)) : St (Elt F) := ⟨outs σ.a σ.o 56 (le_refl _), σ.y, σ.a⟩

/-- The buffers after the body. -/
def bodyOut (X1 : S16384.Idx → Elt F .i32) (X2 : S256x7168.Idx → Elt F .i8) (X3 : S8x16384.Idx → Elt F .bf16) (X4 : S128x128x128.Idx → Elt F .bf16) (hX1 : ∀ x, (X1 x : BitVec 32).toNat < 128)
    (i : grid0.Coords) (σ : St (Elt F)) : St (Elt F) :=
  if k0_cond2 i = 1#1 then finish (trips X1 X2 X3 X4 hX1 i σ) else trips X1 X2 X3 X4 hX1 i σ

end Cert.Hand.KI

end
-- ==== Proof.BodyEq.lean ====
/-
  The whole body, run from any contents, leaves the named function of them.
-/
module

public import proofs.«01_k».proof.Proof.TripEq
public import proofs.«01_k».proof.Proof.BodyFn

@[expose] public section

set_option maxRecDepth 65536
set_option maxHeartbeats 0

noncomputable section

namespace Cert.Hand.KI

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]

/-- One trip, as the body calls it, leaves what `tripOut` says. -/
theorem trip_run (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (t : Fin k0_t1_loop.trips) (σ : St (Elt F)) :
    Runs (defs₀ (F := F)) (⟨c, arg1, arg2, arg3, arg4, arg5, arg6, arg7, q1, X1, X2, X3, X4⟩ : Env nD τ sig (Elt F))
      (k0_t1_body i arg1 harg1 arg2 harg2 arg3 harg3 arg4 harg4 arg5 harg5 arg6 harg6 arg7 harg7 (BitVec.ofNat 32 (i 0).val) lanes rows8 (mask lanes rows8 0#32 1#32) (mask lanes rows8 2#32 3#32) (mask lanes rows8 4#32 5#32) (mask lanes rows8 6#32 8#32)
      (mask lanes rows8 9#32 10#32) (select (cmpi .slt rows8 (broadcast S8x128 4#32)) (broadcast S8x128 11#32) (broadcast S8x128 12#32))
      (Scalar.select (Scalar.cmpi .eq 16#32 0#32) 1#32 16#32) (remsi lanes (broadcast S8x128 (Scalar.select (Scalar.cmpi .eq 16#32 0#32) 1#32 16#32))) 0#32 t ⟨⟩) σ ⟨⟩ (tripOut X1 X2 X3 X4 hX1 i t σ) := by
  rw [← tripW_eq c q1 i arg1 harg1 arg2 harg2 arg3 harg3 arg4 harg4 arg5 harg5 arg6 harg6 arg7 harg7 X1 X2 X3 X4 hX1 t σ]
  exact (tripW c q1 i arg1 harg1 arg2 harg2 arg3 harg3 arg4 harg4 arg5 harg5 arg6 harg6 arg7 harg7 X1 X2 X3 X4 hX1 _ _ _ _ _ _ _ _ _ _ _ _ t σ).2

/-- The whole body, run: the contents it leaves are found along the way. -/
def bodyW (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (σ : St (Elt F)) :
    { σ' : St (Elt F) // Runs (defs₀ (F := F)) (⟨c, arg1, arg2, arg3, arg4, arg5, arg6, arg7, q1, X1, X2, X3, X4⟩ : Env nD τ sig (Elt F))
      (cc0__body i arg1 harg1 arg2 harg2 arg3 harg3 arg4 harg4 arg5 harg5 arg6 harg6 arg7 harg7) σ ⟨⟩ σ' } := by
  apply (newGoals := .nonDependentOnly) Subtype.mk
  unfold cc0__body
  repeat (first
    | with_reducible exact Runs.load5
    | with_reducible exact Runs.store5
    | with_reducible exact Runs.load7
    | with_reducible exact Runs.store7
    | with_reducible exact Runs.load6
    | with_reducible exact Runs.store6
    | with_reducible exact Runs.pure _
    | with_reducible apply (newGoals := .nonDependentOnly) Runs.dite
    | intro _
    | with_reducible apply (newGoals := .nonDependentOnly) Runs.bind
    | exact Runs.loop_fn (fun t σ => tripOut X1 X2 X3 X4 hX1 i t σ) (fun t σ => trip_run c q1 i arg1 harg1 arg2 harg2 arg3 harg3 arg4 harg4 arg5 harg5 arg6 harg6 arg7 harg7 X1 X2 X3 X4 hX1 t σ) _
    | apply (newGoals := .nonDependentOnly) Runs.bind
    | apply (newGoals := .nonDependentOnly) Runs.dite
    | exact Runs.pure _)

theorem bodyW_eq (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (σ : St (Elt F)) :
    (bodyW c q1 i arg1 harg1 arg2 harg2 arg3 harg3 arg4 harg4 arg5 harg5 arg6 harg6 arg7 harg7 X1 X2 X3 X4 hX1 σ).1 = bodyOut X1 X2 X3 X4 hX1 i σ := by
  unfold bodyW bodyOut trips finish start k0_pay754 k0_pay755
  dsimp only
  generalize iter (fun (t : Fin k0_t1_loop.trips) (σ : St (Elt F)) => tripOut X1 X2 X3 X4 hX1 i t σ) _ k0_t1_loop.trips = τ8
  congr 1

/-- The body leaves what `bodyOut` says. -/
theorem body_run (c : Dev nD) (q1 : PosShare TreeShare) (i : grid0.Coords) (arg1 : Memref sig .tc .smem S16384 .i32) (harg1 : arg1.IsWhole) (arg2 : Memref sig .tc .vmem S256x7168 .i8) (harg2 : arg2.IsWhole) (arg3 : Memref sig .tc .vmem S8x16384 .bf16) (harg3 : arg3.IsWhole) (arg4 : Memref sig .tc .vmem S128x128x128 .bf16) (harg4 : arg4.IsWhole) (arg5 : Memref sig .tc .vmem S8x7168 .bf16) (harg5 : arg5.IsWhole) (arg6 : Memref sig .tc .vmem S456x128 .i32) (harg6 : arg6.IsWhole) (arg7 : Memref sig .tc .vmem S2x112x256 .f32) (harg7 : arg7.IsWhole)
    (X1 : S16384.Idx → Elt F .i32) (X2 : S256x7168.Idx → Elt F .i8) (X3 : S8x16384.Idx → Elt F .bf16) (X4 : S128x128x128.Idx → Elt F .bf16)
    (hX1 : ∀ x, (X1 x : BitVec 32).toNat < 128)
    (σ : St (Elt F)) :
    Runs (defs₀ (F := F)) (⟨c, arg1, arg2, arg3, arg4, arg5, arg6, arg7, q1, X1, X2, X3, X4⟩ : Env nD τ sig (Elt F))
      (cc0__body i arg1 harg1 arg2 harg2 arg3 harg3 arg4 harg4 arg5 harg5 arg6 harg6 arg7 harg7) σ ⟨⟩ (bodyOut X1 X2 X3 X4 hX1 i σ) := by
  rw [← bodyW_eq c q1 i arg1 harg1 arg2 harg2 arg3 harg3 arg4 harg4 arg5 harg5 arg6 harg6 arg7 harg7 X1 X2 X3 X4 hX1 σ]
  exact (bodyW c q1 i arg1 harg1 arg2 harg2 arg3 harg3 arg4 harg4 arg5 harg5 arg6 harg6 arg7 harg7 X1 X2 X3 X4 hX1 σ).2

end Cert.Hand.KI

end
-- ==== Proof.Planes.lean ====
/-
  The code planes read at an index: the kernel halves each word three times and packs the pieces again; element
  `(8 k + r, l)` of a plane is one nibble of the word in row `7 k + r`, lane `l`, of one word row of the relay.
-/
module

public import proofs.«01_k».proof.Proof.TripFn
public import Idealize.ShloMosaic.Lib.BitcastPair
public import Idealize.ShloMosaic.Lib.Pointwise

@[expose] public section

noncomputable section

namespace Cert.Hand.KI

open Cert.KernelIdeal Cert.KernelIdeal.Gen
open Idealize.ShloMosaic Idealize.ShloMosaic.TcCoe

variable {F : FTy → Type} [FloatOps F]

/-- A reinterpretation of a rectangle's rows, read at a bit. -/
theorem bitcast_bit {v w R r n : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Two word vectors, one after the other, at a row. -/
theorem two_apply (a b : IVec S8x128 32) (R : Fin 16) (l : Fin 128) :
    two a b (ix2 R l) = if h : R.val < 8 then a (ix2 ⟨R.val, h⟩ l) else b (ix2 ⟨R.val - 8, by omega⟩ l) := by
  unfold two
  pointwise

/-- A vector of eight rows of words whose bits are those of `Z` from row `o` on. -/
def Bits (Z : ℕ → Fin 128 → ℕ → Bool) (a : IVec S8x128 32) (o : ℕ) : Prop :=
  ∀ (r : Fin 8) (l : Fin 128) (q : ℕ), q < 32 → (a (ix2 r l)).getLsbD q = Z (o + r.val) l q

theorem two_bit {Z : ℕ → Fin 128 → ℕ → Bool} {a b : IVec S8x128 32} {o : ℕ} (ha : Bits Z a o) (hb : Bits Z b (o + 8)) (R : Fin 16) (l : Fin 128)
    (q : ℕ) (hq : q < 32) : (two a b (ix2 R l)).getLsbD q = Z (o + R.val) l q := by
  rw [two_apply]
  split
  · exact ha _ _ _ hq
  · rw [hb _ _ _ hq]
    congr 1
    show o + 8 + (R.val - 8) = o + R.val
    omega

/-- A shift right of every word by a constant, at a bit. -/
theorem shr_bit (x : IVec S16x128 32) (n : ℕ) (hn : n < 32) (i : S16x128.Idx) (q : ℕ) :
    (shrui x (broadcast S16x128 (BitVec.ofNat 32 n)) i).getLsbD q = (x i).getLsbD (n + q) := by
  show (if (BitVec.ofNat 32 n).toNat < 32 then x i >>> (BitVec.ofNat 32 n).toNat else 0#32).getLsbD q = _
  have : (BitVec.ofNat 32 n).toNat = n := by rw [BitVec.toNat_ofNat]; omega
  rw [this, if_pos hn, BitVec.getLsbD_ushiftRight]

theorem half_bits {Z : ℕ → Fin 128 → ℕ → Bool} {a b : IVec S8x128 32} {o : ℕ} (ha : Bits Z a (2 * o)) (hb : Bits Z b (2 * o + 8)) (b₂ : Fin 2) :
    Bits (fun R l q => Z (2 * R + q / 16) l (q % 16 + 16 * b₂.val)) (half b₂ a b) o := by
  intro r l q hq
  have hr := r.isLt
  have hd : (r.val * 32 + q) / 16 = 2 * r.val + q / 16 := by omega
  have hm : (r.val * 32 + q) % 16 = q % 16 := by omega
  have hlt : 2 * r.val + q / 16 < 16 := by omega
  match b₂ with
  | ⟨0, _⟩ =>
    show (bitcast S8x128 32 (trunci 16 (two a b) natLt_16_32) bitcasts_S16x128_w16_S8x128_w32 (ix2 r l)).getLsbD q = _
    rw [bitcast_bit _ _ (by decide) r l q hq ⟨_, hlt⟩ hd.symm, hm]
    show ((two a b (ix2 ⟨_, hlt⟩ l)).setWidth 16).getLsbD (q % 16) = _
    rw [BitVec.getLsbD_setWidth, two_bit ha hb _ _ _ (by omega)]
    simp only [show q % 16 < 16 by omega, decide_true, Bool.true_and]
    congr 1 <;> omega
  | ⟨1, _⟩ =>
    show (bitcast S8x128 32 (trunci 16 (shrui (two a b) (broadcast S16x128 16#32)) natLt_16_32) bitcasts_S16x128_w16_S8x128_w32 (ix2 r l)).getLsbD q = _
    rw [bitcast_bit _ _ (by decide) r l q hq ⟨_, hlt⟩ hd.symm, hm]
    show ((shrui (two a b) (broadcast S16x128 16#32) (ix2 ⟨_, hlt⟩ l)).setWidth 16).getLsbD (q % 16) = _
    rw [BitVec.getLsbD_setWidth, shr_bit _ 16 (by decide), two_bit ha hb _ _ _ (by omega)]
    simp only [show q % 16 < 16 by omega, decide_true, Bool.true_and]
    congr 1 <;> omega

theorem byte_bits {Z : ℕ → Fin 128 → ℕ → Bool} {a b : IVec S8x128 32} {o : ℕ} (ha : Bits Z a (2 * o)) (hb : Bits Z b (2 * o + 8)) (b₁ : Fin 2) :
    Bits (fun R l q => Z (2 * R + q / 16) l (16 * (q / 8 % 2) + q % 8 + 8 * b₁.val)) (byte b₁ a b) o := by
  intro r l q hq
  have hr := r.isLt
  have hd : (r.val * 32 + q) / 8 = 4 * r.val + q / 8 := by omega
  have hm : (r.val * 32 + q) % 8 = q % 8 := by omega
  have hlt : 4 * r.val + q / 8 < 32 := by omega
  have hd' : ((4 * r.val + q / 8) * 16 + q % 8) / 32 = 2 * r.val + q / 16 := by omega
  have hm' : ((4 * r.val + q / 8) * 16 + q % 8) % 32 = 16 * (q / 8 % 2) + q % 8 := by omega
  have hlt' : 2 * r.val + q / 16 < 16 := by omega
  match b₁ with
  | ⟨0, _⟩ =>
    show (bitcast S8x128 32 (trunci 8 (bitcast S32x128 16 (two a b) bitcasts_S16x128_w32_S32x128_w16) natLt_8_16) bitcasts_S32x128_w8_S8x128_w32 (ix2 r l)).getLsbD q = _
    rw [bitcast_bit _ _ (by decide) r l q hq ⟨_, hlt⟩ hd.symm, hm]
    show ((bitcast S32x128 16 (two a b) bitcasts_S16x128_w32_S32x128_w16 (ix2 ⟨_, hlt⟩ l)).setWidth 8).getLsbD (q % 8) = _
    rw [BitVec.getLsbD_setWidth, bitcast_bit _ _ (by decide) _ l _ (by omega) ⟨_, hlt'⟩ hd'.symm, hm', two_bit ha hb _ _ _ (by omega)]
    simp only [show q % 8 < 8 by omega, decide_true, Bool.true_and]
    congr 1 <;> omega
  | ⟨1, _⟩ =>
    show (bitcast S8x128 32 (trunci 8 (bitcast S32x128 16 (shrui (two a b) (broadcast S16x128 8#32)) bitcasts_S16x128_w32_S32x128_w16) natLt_8_16) bitcasts_S32x128_w8_S8x128_w32 (ix2 r l)).getLsbD q = _
    rw [bitcast_bit _ _ (by decide) r l q hq ⟨_, hlt⟩ hd.symm, hm]
    show ((bitcast S32x128 16 (shrui (two a b) (broadcast S16x128 8#32)) bitcasts_S16x128_w32_S32x128_w16 (ix2 ⟨_, hlt⟩ l)).setWidth 8).getLsbD (q % 8) = _
    rw [BitVec.getLsbD_setWidth, bitcast_bit _ _ (by decide) _ l _ (by omega) ⟨_, hlt'⟩ hd'.symm, hm', shr_bit _ 8 (by decide), two_bit ha hb _ _ _ (by omega)]
    simp only [show q % 8 < 8 by omega, decide_true, Bool.true_and]
    congr 1 <;> omega

theorem nib_bits {Z : ℕ → Fin 128 → ℕ → Bool} {a b : IVec S8x128 32} (ha : Bits Z a 0) (hb : Bits Z b 8) (b₀ : Fin 2) (p : Fin 64) (l : Fin 128)
    (q : ℕ) (hq : q < 4) : (nib b₀ a b (ix2 p l)).getLsbD q = Z (p.val / 4) l (8 * (p.val % 4) + q + 4 * b₀.val) := by
  have hp := p.isLt
  have hd : (p.val * 8 + q) / 32 = p.val / 4 := by omega
  have hm : (p.val * 8 + q) % 32 = 8 * (p.val % 4) + q := by omega
  have hlt : p.val / 4 < 16 := by omega
  match b₀ with
  | ⟨0, _⟩ =>
    show ((bitcast S64x128 8 (two a b) bitcasts_S16x128_w32_S64x128_w8 (ix2 p l)).setWidth 4).getLsbD q = _
    rw [BitVec.getLsbD_setWidth, bitcast_bit _ _ (by decide) _ l _ (by omega) ⟨_, hlt⟩ hd.symm, hm, two_bit ha hb _ _ _ (by omega)]
    simp only [hq, decide_true, Bool.true_and]
    congr 1 <;> omega
  | ⟨1, _⟩ =>
    show ((bitcast S64x128 8 (shrui (two a b) (broadcast S16x128 4#32)) bitcasts_S16x128_w32_S64x128_w8 (ix2 p l)).setWidth 4).getLsbD q = _
    rw [BitVec.getLsbD_setWidth, bitcast_bit _ _ (by decide) _ l _ (by omega) ⟨_, hlt⟩ hd.symm, hm, shr_bit _ 4 (by decide), two_bit ha hb _ _ _ (by omega)]
    simp only [hq, decide_true, Bool.true_and]
    congr 1 <;> omega

/-- The bits of the words of word row `s`, as the planes count their rows. -/
def wordBits (Y : S456x128.Idx → BitVec 32) (s : Fin 8) (R : ℕ) (l : Fin 128) (q : ℕ) : Bool :=
  if h : 57 * s.val + 7 * (R / 8) + R % 8 < 456 then (Y (ix2 ⟨57 * s.val + 7 * (R / 8) + R % 8, h⟩ l)).getLsbD q else false

theorem words_bits (Y : S456x128.Idx → Elt F .i32) (s k : Fin 8) : Bits (wordBits Y s) (words (F := F) Y s k) (8 * k.val) := by
  intro r l q hq
  have hs := s.isLt
  have hk := k.isLt
  have hr := r.isLt
  unfold wordBits
  rw [dif_pos (by omega)]
  show BitVec.getLsbD (Y _) q = _
  congr 2
  funext c
  match c with
  | ⟨0, _⟩ =>
    apply Fin.ext
    show 57 * s.val + 7 * k.val + 1 * r.val = 57 * s.val + 7 * ((8 * k.val + r.val) / 8) + (8 * k.val + r.val) % 8
    omega
  | ⟨1, _⟩ =>
    apply Fin.ext
    show 0 + 1 * l.val = l.val
    omega

/-- A plane's element is a nibble of a word. -/
theorem plane_bit (Y : S456x128.Idx → Elt F .i32) (s : Fin 8) (b₂ b₁ b₀ : Fin 2) (p : Fin 64) (l : Fin 128) (q : ℕ) (hq : q < 4) :
    (plane (F := F) Y s b₂ b₁ b₀ (ix2 p l)).getLsbD q = wordBits Y s p.val l (q + 4 * b₀.val + 8 * b₁.val + 16 * b₂.val) := by
  unfold plane
  have h01 := half_bits (o := 0) (words_bits Y s ⟨0, by decide⟩) (words_bits Y s ⟨1, by decide⟩) b₂
  have h23 := half_bits (o := 8) (words_bits Y s ⟨2, by decide⟩) (words_bits Y s ⟨3, by decide⟩) b₂
  have h45 := half_bits (o := 16) (words_bits Y s ⟨4, by decide⟩) (words_bits Y s ⟨5, by decide⟩) b₂
  have h67 := half_bits (o := 24) (words_bits Y s ⟨6, by decide⟩) (words_bits Y s ⟨7, by decide⟩) b₂
  have h0 := byte_bits (o := 0) h01 h23 b₁
  have h1 := byte_bits (o := 8) h45 h67 b₁
  rw [nib_bits h0 h1 b₀ p l q hq]
  have hp := p.isLt
  have e0 := b₀.isLt
  have e1 := b₁.isLt
  congr 1 <;> omega

end Cert.Hand.KI

end
-- ==== Proof.Rows.lean ====
/-
  The relay and the dequantized rows read at an index.
-/
module

public import proofs.«01_k».proof.Proof.Planes

@[expose] public section

noncomputable section

namespace Cert.Hand.KI

open Cert.KernelIdeal Cert.KernelIdeal.Gen
open Idealize.ShloMosaic Idealize.ShloMosaic.TcCoe

section
variable {F : FTy → Type} [FloatOps F]

/-- A cast to the same shape changes nothing. -/
theorem cast_same {s : Shape} {A : Type} (x : s.Idx → A) (h : s.ShapeCasts s) (i : s.Idx) : shapeCast s x h i = x i := by
  show x (Shape.reshapeEquiv _ i) = x i
  congr 1
  unfold Shape.reshapeEquiv
  simp [Shape.reshapeEquiv]

theorem relayVal_bit (X2 : S256x7168.Idx → Elt F .i8) (t : Fin k0_t1_loop.trips) (c : ℕ) (h : c < 56) (r : Fin 8) (l : Fin 128) (q : ℕ) (hq : q < 32)
    (y : S256x7168.Idx) (h0 : (y 0).val = 32 * t.val + 4 * r.val + q / 8) (h1 : (y 1).val = 128 * c + l.val) :
    (relayVal X2 t c h (ix2 r l)).getLsbD q = BitVec.getLsbD (w := 8) (X2 y) (q % 8) := by
  have hr := r.isLt
  have hoff : (Scalar.indexCast (Scalar.muli (iv t) 32#32)).toNat = 32 * t.val := by clear h0; revert t; decide
  unfold relayVal
  rw [cast_same, bitcast_bit _ _ (by decide) r l q hq ⟨4 * r.val + q / 8, by omega⟩ (by show 4 * r.val + q / 8 = (r.val * 32 + q) / 8; omega)]
  have hm : (r.val * 32 + q) % 8 = q % 8 := by omega
  rw [hm]
  congr 1
  show X2 _ = X2 y
  congr 1
  funext a
  match a with
  | ⟨0, _⟩ =>
    apply Fin.ext
    refine Eq.trans ?_ h0.symm
    show (Scalar.indexCast (Scalar.muli (iv t) 32#32)).toNat + 1 * (4 * r.val + q / 8) = _
    omega
  | ⟨1, _⟩ =>
    apply Fin.ext
    refine Eq.trans ?_ h1.symm
    show 128 * c + 1 * l.val = _
    omega

theorem relayRect_emb (c : ℕ) (h : c < 56) (r : Fin 8) (l : Fin 128) (y : S456x128.Idx) (h0 : (y 0).val = 57 * r.val + c) (h1 : (y 1).val = l.val) :
    (relayRect c h).emb (ix2 r l) = y := by
  funext a
  match a with
  | ⟨0, _⟩ =>
    apply Fin.ext
    refine Eq.trans ?_ h0.symm
    show c + 57 * r.val = _
    omega
  | ⟨1, _⟩ =>
    apply Fin.ext
    refine Eq.trans ?_ h1.symm
    show 0 + 1 * l.val = _
    omega

/-- The relay holds, in row `57 r + c`, the words of column `c`. -/
theorem relay_apply (X2 : S256x7168.Idx → Elt F .i8) (t : Fin k0_t1_loop.trips) (Y : S456x128.Idx → Elt F .i32) (r : Fin 8) (l : Fin 128)
    (y : S456x128.Idx) (c : ℕ) (hc : c < 56) (h0 : (y 0).val = 57 * r.val + c) (h1 : (y 1).val = l.val) :
    ∀ (n : ℕ) (hn : n ≤ 56), c < n → relay X2 t Y n hn y = relayVal X2 t c hc (ix2 r l)
  | 0, _, h => absurd h (Nat.not_lt_zero _)
  | n + 1, hn, h => by
    rw [relay]
    by_cases e : c = n
    · subst e
      rw [← relayRect_emb c hn r l y h0 h1, wr_emb]
    · rw [wr_off]
      · exact relay_apply X2 t Y r l y c hc h0 h1 n _ (by omega)
      · intro x hx
        have hr := r.isLt
        have hx0 : (x 0).val < 8 := (x 0).isLt
        have := congrArg (fun z : S456x128.Idx => (z 0).val) hx
        simp only [h0] at this
        have this : n + 57 * (x 0).val = 57 * r.val + c := this
        omega

/-- A code of the slab: nibble `r % 2` of the byte of rows `16 t' + r` and `16 t' + r ± 1`. -/
theorem plane_code (X2 : S256x7168.Idx → Elt F .i8) (t : Fin k0_t1_loop.trips) (Y : S456x128.Idx → Elt F .i32) (t' : Fin 4) (r : Fin 16)
    (p : Fin 64) (l : Fin 128) (hp : p.val % 8 < 7) (y : S256x7168.Idx) (h0 : (y 0).val = 32 * t.val + 8 * t'.val + r.val / 2)
    (h1 : (y 1).val = 128 * (7 * (p.val / 8) + p.val % 8) + l.val) :
    (plane (F := F) (relay X2 t Y 56 (le_refl _)) ⟨2 * t'.val + r.val / 8, by omega⟩ ⟨r.val % 8 / 4, by omega⟩ ⟨r.val % 4 / 2, by omega⟩ ⟨r.val % 2, by omega⟩ (ix2 p l)).toNat
      = BitVec.toNat (w := 8) (X2 y) / 16 ^ (r.val % 2) % 16 := by
  have hr := r.isLt
  have ht' := t'.isLt
  have hpl := p.isLt
  have key : plane (F := F) (relay X2 t Y 56 (le_refl _)) ⟨2 * t'.val + r.val / 8, by omega⟩ ⟨r.val % 8 / 4, by omega⟩ ⟨r.val % 4 / 2, by omega⟩ ⟨r.val % 2, by omega⟩ (ix2 p l)
      = ((X2 y : BitVec 8) >>> (4 * (r.val % 2))).setWidth 4 := by
    apply BitVec.eq_of_getLsbD_eq
    intro q hq
    rw [plane_bit _ _ _ _ _ _ _ _ hq]
    unfold wordBits
    dsimp only
    rw [dif_pos (by omega)]
    rw [relay_apply X2 t Y ⟨2 * t'.val + r.val / 8, by omega⟩ l _ (7 * (p.val / 8) + p.val % 8) (by omega) (by show 57 * (2 * t'.val + r.val / 8) + 7 * (p.val / 8) + p.val % 8 = 57 * (2 * t'.val + r.val / 8) + (7 * (p.val / 8) + p.val % 8); omega) rfl 56 (le_refl _) (by omega)]
    rw [relayVal_bit X2 t _ _ _ _ _ (by omega) y (by rw [h0]; show _ = 32 * t.val + 4 * (2 * t'.val + r.val / 8) + _; omega) h1]
    rw [BitVec.getLsbD_setWidth, BitVec.getLsbD_ushiftRight]
    simp only [hq, decide_true, Bool.true_and]
    congr 1
    omega
  rw [key]
  rw [BitVec.toNat_setWidth, BitVec.toNat_ushiftRight, Nat.shiftRight_eq_div_pow]
  have : 2 ^ (4 * (r.val % 2)) = 16 ^ (r.val % 2) := by rw [pow_mul]; rfl
  rw [this]

end

theorem cast3 {A : Type} (x : S1x64x128.Idx → A) (p : Fin 64) (l : Fin 128) :
    shapeCast S64x128 x shapeCasts_S1x64x128_S64x128 (ix2 p l) = x (ix3 0 p l) := by
  pointwise

theorem dequant (c : IVec S64x128 4) (z s : FVec Ideal S64x128 .bf16) (j : S64x128.Idx) :
    mulf (subf (uitofp .bf16 c) z) s j = (((((c j).toNat : ℕ) : ℝ) : EReal) - z j) * s j := rfl

/-- A row of the table at an index. -/
theorem entry_apply (X4 : S128x128x128.Idx → Elt Ideal .bf16) (g : BitVec 32) (o : ℕ) (h) (p : Fin 64) (l : Fin 128) (y : S128x128x128.Idx)
    (h0 : (y 0).val = g.toNat) (h1 : (y 1).val = o + p.val) (h2 : (y 2).val = l.val) :
    entry (F := Ideal) X4 g o h (ix2 p l) = X4 y := by
  unfold entry
  rw [cast3]
  show X4 _ = X4 y
  congr 1
  funext a
  match a with
  | ⟨0, _⟩ =>
    apply Fin.ext
    refine Eq.trans ?_ h0.symm
    show g.toNat + 1 * 0 = _
    omega
  | ⟨1, _⟩ =>
    apply Fin.ext
    refine Eq.trans ?_ h1.symm
    show o + 1 * p.val = _
    omega
  | ⟨2, _⟩ =>
    apply Fin.ext
    refine Eq.trans ?_ h2.symm
    show 0 + 1 * l.val = _
    omega

/-- One dequantized value. -/
theorem row_apply (X1 : S16384.Idx → Elt Ideal .i32) (X2 : S256x7168.Idx → Elt Ideal .i8) (X4 : S128x128x128.Idx → Elt Ideal .bf16) (hX1 : ∀ x, (X1 x : BitVec 32).toNat < 128)
    (Y : S456x128.Idx → Elt Ideal .i32) (i : grid0.Coords) (t : Fin k0_t1_loop.trips) (t' : Fin 4) (r : Fin 16)
    (p : Fin 64) (l : Fin 128) (hp : p.val % 8 < 7) (y : S256x7168.Idx) (h0 : (y 0).val = 32 * t.val + 8 * t'.val + r.val / 2)
    (h1 : (y 1).val = 128 * (7 * (p.val / 8) + p.val % 8) + l.val) (K : S16384.Idx) (hK : (K 0).val = 64 * (8 * (i 0).val + t.val) + 16 * t'.val + r.val)
    (z : S128x128x128.Idx) (hz0 : (z 0).val = (X1 K : BitVec 32).toNat) (hz1 : (z 1).val = 64 + p.val) (hz2 : (z 2).val = l.val)
    (s : S128x128x128.Idx) (hs0 : (s 0).val = (X1 K : BitVec 32).toNat) (hs1 : (s 1).val = p.val) (hs2 : (s 2).val = l.val) :
    row X1 X4 hX1 (relay X2 t Y 56 (le_refl _)) i t t' r (ix2 p l)
      = ((((BitVec.toNat (w := 8) (X2 y) / 16 ^ (r.val % 2) % 16 : ℕ) : ℝ) : EReal) - X4 z) * X4 s := by
  have hg : group (F := Ideal) X1 i t t' r = X1 K := by
    unfold group
    congr 1
    funext a
    match a with
    | ⟨0, _⟩ =>
      apply Fin.ext
      refine Eq.trans ?_ hK.symm
      refine Eq.trans ?_ (groupOff_eq i t t'.val r.val t'.isLt r.isLt)
      show groupOff i t t'.val r.val 0 + 1 * 0 = _
      omega
  unfold row
  rw [dequant, entry_apply X4 _ 64 _ p l z (by rw [hz0, hg]) hz1 hz2, entry_apply X4 _ 0 _ p l s (by rw [hs0, hg]) (by omega) hs2]
  rw [← plane_code X2 t Y t' r p l hp y h0 h1]

end Cert.Hand.KI

end
-- ==== Proof.Lanes.lean ====
/-
  The integer vectors that place the activations: which lanes a mask takes, and which activation a lane takes.
-/
module

public import proofs.«01_k».proof.Proof.TripFn
public import Idealize.ShloMosaic.Lib.Pointwise

@[expose] public section

noncomputable section

namespace Cert.Hand.KI

open Cert.KernelIdeal Cert.KernelIdeal.Gen
open Idealize.ShloMosaic Idealize.ShloMosaic.TcCoe

theorem lanes_apply (r : Fin 8) (l : Fin 128) : lanes (ix2 r l) = BitVec.ofNat 32 l.val := by
  unfold lanes
  pointwise
theorem rows8_apply (r : Fin 8) (l : Fin 128) : rows8 (ix2 r l) = BitVec.ofNat 32 r.val := by
  unfold rows8
  pointwise

/-- A lane's number modulo 16, as the kernel computes it. -/
def laneMod (v : BitVec 32) : BitVec 32 :=
  let m : BitVec 32 := Scalar.select (Scalar.cmpi .eq 16#32 0#32) 1#32 16#32
  let r : BitVec 32 := IntOp.remsi .vector v m
  Scalar.select (IntOp.andi (IntOp.xori (IntOp.cmpi .slt r 0#32) (Scalar.cmpi .slt m 0#32)) (IntOp.cmpi .ne r 0#32)) (IntOp.addi r m) r

theorem laneMod_eq : ∀ l : Fin 128, laneMod (BitVec.ofNat 32 l.val) = BitVec.ofNat 32 (l.val % 16) := by
  decide +kernel

theorem mask_apply (a b : Fin 16) (r : Fin 8) (l : Fin 128) :
    mask lanes rows8 (BitVec.ofNat 32 a.val) (BitVec.ofNat 32 b.val) (ix2 r l) = 1#1 ↔ l.val % 16 = if r.val < 4 then a.val else b.val := by
  have h : mask lanes rows8 (BitVec.ofNat 32 a.val) (BitVec.ofNat 32 b.val) (ix2 r l)
      = IntOp.cmpi .eq (laneMod (lanes (ix2 r l))) (Scalar.select (IntOp.cmpi .slt (rows8 (ix2 r l)) 4#32) (BitVec.ofNat 32 a.val) (BitVec.ofNat 32 b.val)) := rfl
  rw [h, lanes_apply, rows8_apply, laneMod_eq]
  have hs : ∀ r : Fin 8, Scalar.select (IntOp.cmpi .slt (BitVec.ofNat 32 r.val) 4#32) (BitVec.ofNat 32 a.val) (BitVec.ofNat 32 b.val) = BitVec.ofNat 32 (if r.val < 4 then a.val else b.val) := by
    intro r
    fin_cases r <;> rfl
  rw [hs]
  generalize hx : (if r.val < 4 then a.val else b.val) = x
  have hxl : x < 16 := by rw [← hx]; split <;> omega
  show BitVec.ofBool (BitVec.ofNat 32 (l.val % 16) == BitVec.ofNat 32 x) = 1#1 ↔ _
  by_cases e : l.val % 16 = x
  · simp [e]
  · have : ¬ (BitVec.ofNat 32 (l.val % 16) = BitVec.ofNat 32 x) := by
      intro h
      have := congrArg BitVec.toNat h
      simp only [BitVec.toNat_ofNat] at this
      omega
    rw [beq_eq_false_iff_ne.2 this]
    simp [e]

/-- A lane's number divided by 16, as the kernel computes it. -/
def laneDiv (v : BitVec 32) : BitVec 32 :=
  Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

theorem laneDiv_eq : ∀ l : Fin 128, laneDiv (BitVec.ofNat 32 l.val) = BitVec.ofNat 32 (l.val / 16) := by
  decide +kernel

theorem lane16_apply (r : Fin 8) (l : Fin 128) : lane16 lanes (ix2 r l) = BitVec.ofNat 32 (l.val / 16) := by
  have h : lane16 lanes (ix2 r l) = laneDiv (lanes (ix2 r l)) := rfl
  rw [h, lanes_apply, laneDiv_eq]

theorem wordMod_all : ∀ (i : Fin 32) (t : Fin 8), wordMod (Scalar.muli (Scalar.addi (Scalar.muli (BitVec.ofNat 32 i.val) 8#32) (Scf.iv 0#32 1#32 t)) 64#32) = BitVec.ofNat 32 (64 * (t.val % 2)) := by
  decide +kernel

theorem wordMod_eq (i : grid0.Coords) (t : Fin k0_t1_loop.trips) : wordMod (k0w i t) = BitVec.ofNat 32 (64 * (t.val % 2)) :=
  wordMod_all (i 0) t

theorem laneIdx_apply (i : grid0.Coords) (t : Fin k0_t1_loop.trips) (t' : Fin 4) (h : Fin 2) (r : Fin 8) (l : Fin 128) :
    (laneIdx lanes (k0w i t) t'.val h.val (ix2 r l)).toNat = l.val / 16 + 64 * (t.val % 2) + 16 * t'.val + 8 * h.val := by
  have hb : laneIdx lanes (k0w i t) t'.val h.val (ix2 r l)
      = Scalar.select (IntOp.cmpi .slt (lane16 lanes (ix2 r l) + (wordMod (k0w i t) + BitVec.ofNat 32 (16 * t'.val)) + BitVec.ofNat 32 (8 * h.val)) 0#32)
        (lane16 lanes (ix2 r l) + (wordMod (k0w i t) + BitVec.ofNat 32 (16 * t'.val)) + BitVec.ofNat 32 (8 * h.val) + 128#32)
        (lane16 lanes (ix2 r l) + (wordMod (k0w i t) + BitVec.ofNat 32 (16 * t'.val)) + BitVec.ofNat 32 (8 * h.val)) := rfl
  rw [hb, lane16_apply, wordMod_eq]
  have hl := l.isLt
  have ht' := t'.isLt
  have hh := h.isLt
  have e : BitVec.ofNat 32 (l.val / 16) + (BitVec.ofNat 32 (64 * (t.val % 2)) + BitVec.ofNat 32 (16 * t'.val)) + BitVec.ofNat 32 (8 * h.val)
      = BitVec.ofNat 32 (l.val / 16 + 64 * (t.val % 2) + 16 * t'.val + 8 * h.val) := by
    apply BitVec.eq_of_toNat_eq
    simp only [BitVec.toNat_add, BitVec.toNat_ofNat]
    omega
  rw [e]
  generalize hn : l.val / 16 + 64 * (t.val % 2) + 16 * t'.val + 8 * h.val = n
  have hn' : n < 128 := by omega
  have key : ∀ n : Fin 128, (Scalar.select (IntOp.cmpi .slt (BitVec.ofNat 32 n.val) 0#32) (BitVec.ofNat 32 n.val + 128#32) (BitVec.ofNat 32 n.val)).toNat = n.val := by
    decide +kernel
  exact key ⟨n, hn'⟩

end Cert.Hand.KI

end
-- ==== Proof.Left.lean ====
/-
  The masked activations read at an index, and the products with them: the masks leave one activation in sixteen
  lanes, so a product of length 256 is a sum of sixteen terms.
-/
module

public import proofs.«01_k».proof.Proof.Lanes

@[expose] public section

set_option maxRecDepth 16384

noncomputable section

namespace Cert.Hand.KI

open Cert.KernelIdeal Cert.KernelIdeal.Gen
open Idealize.ShloMosaic Idealize.ShloMosaic.TcCoe

/-- The packed row that piece `n` of fourteen takes: 0 to 6 and 8 to 14. -/
def taps (n : Fin 14) : Fin 16 := if n.val < 7 then ⟨n.val, by omega⟩ else ⟨n.val + 1, by omega⟩

/-- The seven masks. -/
def mask7 (n : Fin 7) : IVec S8x128 1 :=
  mask lanes rows8 (BitVec.ofNat 32 (taps ⟨2 * n.val, by omega⟩).val) (BitVec.ofNat 32 (taps ⟨2 * n.val + 1, by omega⟩).val)

theorem kept_apply (g : FVec Ideal S16x128 .bf16) (m : IVec S8x128 1) (r : Fin 16) (l : Fin 128) :
    kept g m (ix2 r l) = Scalar.select (m (ix2 ⟨r.val / 2, by omega⟩ l)) (g (ix2 r l)) 0 := by
  unfold kept
  pointwise
  have hr := r.isLt
  split
  · rename_i h
    congr 2
    apply congrArg (fun a : Fin 16 => ix2 a l)
    apply Fin.ext
    show 2 * (r.val / 2) + 0 = r.val
    have : r.val % 2 = 0 := h
    omega
  · rename_i h
    congr 2
    apply congrArg (fun a : Fin 16 => ix2 a l)
    apply Fin.ext
    show 2 * (r.val / 2) + 1 = r.val
    have : ¬ r.val % 2 = 0 := h
    omega

theorem sel_apply (m : BitVec 1) (x : EReal) (P : Prop) [Decidable P] (h : m = 1#1 ↔ P) : Scalar.select m x 0 = if P then x else 0 := by
  unfold Scalar.select
  by_cases hp : P
  · rw [if_pos hp]; exact if_pos (h.2 hp)
  · rw [if_neg hp]; exact if_neg (fun e => hp (h.1 e))

theorem cast_there {A : Type} (x : S8x128.Idx → A) : shapeCast S8x128 (shapeCast S8x128x1 x shapeCasts_S8x128_S8x128x1) shapeCasts_S8x128x1_S8x128 = x := by
  funext j
  obtain ⟨a, b, rfl⟩ : ∃ (a : Fin 8) (b : Fin 128), j = ix2 a b := ⟨j 0, j 1, eq_ix2 j⟩
  pointwise

theorem pair_apply {A : Type} (g : S8x128.Idx → A) (r : Fin 16) (l : Fin 128) :
    concatenate S16x128 0 [⟨S8x128, g⟩, ⟨S8x128, g⟩] concatenates_S8x128_S8x128_S16x128_d0 (ix2 r l) = g (ix2 ⟨r.val % 8, by omega⟩ l) := by
  have hr := r.isLt
  pointwise
  split
  · congr 2
    apply Fin.ext
    show r.val = r.val % 8
    omega
  · congr 2
    apply Fin.ext
    show r.val - 8 = r.val % 8
    omega

theorem taken_apply (X : FVec Ideal S8x128 .f32) (i : grid0.Coords) (t : Fin k0_t1_loop.trips) (t' : Fin 4) (h : Fin 2) (r : Fin 16) (l : Fin 128) (c : Fin 128)
    (hc : c.val = l.val / 16 + 64 * (t.val % 2) + 16 * t'.val + 8 * h.val) :
    taken X lanes (k0w i t) t'.val h.val (ix2 r l) = X (ix2 ⟨r.val % 8, by omega⟩ c) := by
  unfold taken
  rw [cast_there]
  rw [pair_apply]
  show X _ = X _
  congr 1
  funext b
  match b with
  | ⟨0, _⟩ => rfl
  | ⟨1, _⟩ =>
    apply Fin.ext
    show (laneIdx lanes (k0w i t) t'.val h.val (ix2 ⟨r.val % 8, _⟩ l)).toNat % 128 = c.val
    rw [laneIdx_apply, ← hc]
    exact Nat.mod_eq_of_lt c.isLt

theorem lhsHalf_apply (g : FVec Ideal S16x128 .bf16) (m : Fin 7 → IVec S8x128 1) (a : Fin 112) (l : Fin 128) :
    lhsHalf g (m 0) (m 1) (m 2) (m 3) (m 4) (m 5) (m 6) (ix2 a l) = kept g (m ⟨a.val / 16, by omega⟩) (ix2 ⟨a.val % 16, by omega⟩ l) := by
  unfold lhsHalf
  exact concatenate_ofFn_apply (t := S112x128) (s₁ := S16x128) 0 (fun n : Fin 7 => kept g (m n)) _ rfl 16 rfl (ix2 a l) ⟨a.val / 16, by omega⟩ rfl _ rfl
    (fun b hb => by
      match b with
      | ⟨0, _⟩ => exact absurd rfl hb
      | ⟨1, _⟩ => rfl)

theorem left_split (X : FVec Ideal S8x128 .f32) (v3 : IVec S8x128 32) (v613 : BitVec 32) (m : Fin 7 → IVec S8x128 1) (t' : ℕ) (a : Fin 112) (k : Fin 256) :
    lhs X v3 v613 (m 0) (m 1) (m 2) (m 3) (m 4) (m 5) (m 6) t' (ix2 a k)
      = lhsHalf (taken X v3 v613 t' (k.val / 128)) (m 0) (m 1) (m 2) (m 3) (m 4) (m 5) (m 6) (ix2 a ⟨k.val % 128, by omega⟩) := by
  have hk := k.isLt
  unfold lhs
  pointwise
  split
  · rename_i h
    have h : k.val < 128 := h
    have e : k.val / 128 = 0 := by omega
    rw [e]
    congr 2
    apply Fin.ext
    show k.val = k.val % 128
    omega
  · rename_i h
    have h : ¬ k.val < 128 := h
    have e : k.val / 128 = 1 := by omega
    rw [e]
    congr 2
    apply Fin.ext
    show k.val - 128 = k.val % 128
    omega

theorem off57_all : ∀ (n : Fin 32) (t : Fin 8), k0_off57 (fun a => match a with | ⟨0, _⟩ => n) t 1 = 64 * (8 * n.val + t.val) / 128 * 128 := by
  decide +kernel
theorem off57_0 (i : grid0.Coords) (t : Fin k0_t1_loop.trips) : k0_off57 i t 0 = 0 := rfl

theorem off57_eq (i : grid0.Coords) (t : Fin k0_t1_loop.trips) : k0_off57 i t 1 = 64 * (8 * (i 0).val + t.val) / 128 * 128 :=
  off57_all (i 0) t

theorem acts_apply (X3 : S8x16384.Idx → Elt Ideal .bf16) (i : grid0.Coords) (t : Fin k0_t1_loop.trips) (b : Fin 8) (c : Fin 128) (y : S8x16384.Idx)
    (h0 : (y 0).val = b.val) (h1 : (y 1).val = 64 * (8 * (i 0).val + t.val) / 128 * 128 + c.val) : acts X3 i t (ix2 b c) = X3 y := by
  have e : acts X3 i t = rd X3 (Rect.unit (s := S8x16384) (k0_off57 i t) S8x128.size (k0_off57_inb i t)).toLoadRect := by
    funext j
    obtain ⟨a, b, rfl⟩ : ∃ (a : Fin 8) (b : Fin 128), j = ix2 a b := ⟨j 0, j 1, eq_ix2 j⟩
    unfold acts
    generalize rd X3 (Rect.unit (s := S8x16384) (k0_off57 i t) S8x128.size (k0_off57_inb i t)).toLoadRect = v
    show shapeCast S8x128 v shapeCasts_S8x128_S8x128 (ix2 a b) = _
    have hv : ∀ v : S8x128.Idx → EReal, shapeCast S8x128 v shapeCasts_S8x128_S8x128 (ix2 a b) = v (ix2 a b) := fun v => by pointwise
    exact hv v
  rw [e]
  show X3 _ = X3 y
  congr 1
  funext a
  match a with
  | ⟨0, _⟩ =>
    apply Fin.ext
    refine Eq.trans ?_ h0.symm
    show k0_off57 i t 0 + 1 * b.val = _
    rw [off57_0]; omega
  | ⟨1, _⟩ =>
    apply Fin.ext
    refine Eq.trans ?_ h1.symm
    show k0_off57 i t 1 + 1 * c.val = _
    rw [off57_eq]; omega

/-- The left operand: one activation in sixteen lanes of a piece, zero elsewhere. -/
theorem left_apply (X3 : S8x16384.Idx → Elt Ideal .bf16) (i : grid0.Coords) (t : Fin k0_t1_loop.trips) (t' : Fin 4) (a : Fin 112) (k : Fin 256) (y : S8x16384.Idx)
    (h0 : (y 0).val = a.val % 8) (h1 : (y 1).val = 64 * (8 * (i 0).val + t.val) + 16 * t'.val + k.val / 16) :
    left X3 i t t'.val (ix2 a k) = if k.val % 16 = (taps ⟨a.val / 8, by omega⟩).val then X3 y else 0 := by
  have hk := k.isLt
  have ha := a.isLt
  have htt := t'.isLt
  have e : left X3 i t t'.val = lhs (acts X3 i t) lanes (k0w i t) (mask7 0) (mask7 1) (mask7 2) (mask7 3) (mask7 4) (mask7 5) (mask7 6) t'.val := rfl
  rw [e, left_split, lhsHalf_apply, kept_apply]
  rw [taken_apply (acts X3 i t) i t t' ⟨k.val / 128, by omega⟩ _ _ ⟨k.val % 128 / 16 + 64 * (t.val % 2) + 16 * t'.val + 8 * (k.val / 128), by omega⟩ rfl]
  rw [acts_apply X3 i t _ _ y (by rw [h0]; show a.val % 8 = a.val % 16 % 8; omega)
    (by rw [h1]; show _ = 64 * (8 * (i 0).val + t.val) / 128 * 128 + (k.val % 128 / 16 + 64 * (t.val % 2) + 16 * t'.val + 8 * (k.val / 128)); omega)]
  apply sel_apply
  unfold mask7
  rw [mask_apply]
  have e1 : (⟨k.val % 128, by omega⟩ : Fin 128).val % 16 = k.val % 16 := by show k.val % 128 % 16 = _; omega
  rw [e1]
  have e2 : (if a.val % 16 / 2 < 4 then (taps ⟨2 * (a.val / 16), by omega⟩).val else (taps ⟨2 * (a.val / 16) + 1, by omega⟩).val) = (taps ⟨a.val / 8, by omega⟩).val := by
    split
    · congr 2; apply Fin.ext; show 2 * (a.val / 16) = a.val / 8; omega
    · congr 2; apply Fin.ext; show 2 * (a.val / 16) + 1 = a.val / 8; omega
  exact iff_of_eq (congrArg (k.val % 16 = ·) e2)

theorem prod_apply (x : FVec Ideal S112x256 .bf16) (y : FVec Ideal S256x256 .bf16) (a : Fin 112) (c : Fin 256) :
    prod x y (ix2 a c) = ∑ k : Fin 256, x (ix2 a k) * y (ix2 k c) := by
  unfold prod
  pointwise

/-- A sum over 256 terms of which all but one in sixteen are zero. -/
theorem sum_taps (j : Fin 16) (A : Fin 16 → EReal) (B : Fin 256 → EReal) :
    (∑ k : Fin 256, (if k.val % 16 = j.val then A ⟨k.val / 16, by omega⟩ else 0) * B k) = ∑ r : Fin 16, A r * B ⟨16 * r.val + j.val, by omega⟩ := by
  have e : (∑ k : Fin (16 * 16), (if k.val % 16 = j.val then A ⟨k.val / 16, by omega⟩ else 0) * B k)
      = ∑ r : Fin 16, ∑ s : Fin 16, (if s.val = j.val then A r else 0) * B ⟨16 * r.val + s.val, by omega⟩ := by
    rw [← finProdFinEquiv.sum_comp, Fintype.sum_prod_type]
    refine Finset.sum_congr rfl fun r _ => Finset.sum_congr rfl fun s _ => ?_
    have hv : (finProdFinEquiv (r, s)).val = s.val + 16 * r.val := rfl
    have hr := r.isLt
    have hs := s.isLt
    have h1 : (finProdFinEquiv (r, s)).val % 16 = s.val := by omega
    have h2 : (⟨(finProdFinEquiv (r, s)).val / 16, by omega⟩ : Fin 16) = r := Fin.ext (by show (finProdFinEquiv (r, s)).val / 16 = r.val; omega)
    have h3 : (finProdFinEquiv (r, s) : Fin 256) = ⟨16 * r.val + s.val, by omega⟩ := Fin.ext (by show (finProdFinEquiv (r, s)).val = 16 * r.val + s.val; omega)
    rw [h1, h2]
    congr 1
    exact congrArg B h3
  refine Eq.trans e (Finset.sum_congr rfl fun r _ => ?_)
  rw [Finset.sum_eq_single j]
  · rw [if_pos rfl]
  · intro s _ hs
    rw [if_neg (fun h => hs (Fin.ext h)), zero_mul]
  · intro h
    exact absurd (Finset.mem_univ j) h

end Cert.Hand.KI

end
-- ==== Proof.TripVal.lean ====
/-
  What a trip adds to the accumulators, at every place that reaches the output: sixty-four terms of the product.
-/
module

public import proofs.«01_k».proof.Proof.Rows
public import proofs.«01_k».proof.Proof.Left

@[expose] public section

set_option maxRecDepth 16384

noncomputable section

namespace Cert.Hand.KI

open Cert.KernelIdeal Cert.KernelIdeal.Gen
open Idealize.ShloMosaic Idealize.ShloMosaic.TcCoe

/-- The packed row of column block `c`. -/
def prow (c : Fin 56) : Fin 64 := ⟨8 * (c.val / 7) + c.val % 7, by omega⟩

/-- Where the accumulators hold output `(b, 128 c + l)`. -/
def accPos (c : Fin 56) (b : Fin 8) (l : Fin 128) : S2x112x256.Idx :=
  ix3 ⟨c.val / 28, by omega⟩ ⟨56 * (c.val / 7 % 2) + 8 * (c.val % 7) + b.val, by omega⟩ ⟨128 * (c.val / 14 % 2) + l.val, by omega⟩

/-- The term of row `K` of the weights in output `(b, 128 c + l)`: an activation times `(code - zero) * scale`. -/
def term (G : S16384.Idx → BitVec 32) (Q : S8192x7168.Idx → BitVec 8) (X : S8x16384.Idx → EReal) (T : S128x128x128.Idx → EReal) (hG : ∀ x, (G x).toNat < 128)
    (c : Fin 56) (b : Fin 8) (l : Fin 128) (K : ℕ) : EReal :=
  if h : K < 16384 then
    X (ix2 b ⟨K, h⟩) * ((((((Q (ix2 ⟨K / 2, by omega⟩ ⟨128 * c.val + l.val, by omega⟩)).toNat / 16 ^ (K % 2) % 16 : ℕ) : ℝ) : EReal)
      - T (ix3 ⟨(G (ix1 ⟨K, h⟩)).toNat, hG _⟩ ⟨64 + (prow c).val, by omega⟩ l))
      * T (ix3 ⟨(G (ix1 ⟨K, h⟩)).toNat, hG _⟩ ⟨(prow c).val, by omega⟩ l))
  else 0

theorem quarter_apply (w : Fin 16 → FVec Ideal S64x128 .bf16) (q : ℕ) (h) (k : Fin 256) (l : Fin 128) (p : Fin 64) (hp : p.val = 16 * q + k.val % 16) :
    quarter w q h (ix2 k l) = w ⟨k.val / 16, by omega⟩ (ix2 p l) := by
  unfold quarter
  refine Eq.trans (concatenate_ofFn_apply (t := S256x128) (s₁ := S16x128) 0 (fun n : Fin 16 => extractStridedSlice S16x128 ![16 * q, 0] (w n) ⟨rfl, h⟩) _ rfl 16 rfl (ix2 k l) ⟨k.val / 16, by omega⟩ rfl
    (ix2 ⟨k.val % 16, by omega⟩ l) rfl (fun b hb => by
      match b with
      | ⟨0, _⟩ => exact absurd rfl hb
      | ⟨1, _⟩ => rfl)) ?_
  show w _ _ = w _ _
  congr 1
  funext a
  match a with
  | ⟨0, _⟩ => exact Fin.ext hp.symm
  | ⟨1, _⟩ => exact Fin.ext (by show 0 + l.val = l.val; omega)

theorem side_apply {A : Type} (x y : S256x128.Idx → A) (k : Fin 256) (c : Fin 256) :
    concatenate S256x256 1 [⟨S256x128, x⟩, ⟨S256x128, y⟩] concatenates_S256x128_S256x128_S256x256_d1 (ix2 k c)
      = if c.val < 128 then x (ix2 k ⟨c.val % 128, by omega⟩) else y (ix2 k ⟨c.val % 128, by omega⟩) := by
  have hc := c.isLt
  pointwise
  split
  · rename_i h
    have h : c.val < 128 := h
    congr 2
    apply Fin.ext
    show c.val = c.val % 128
    omega
  · rename_i h
    have h : ¬ c.val < 128 := h
    congr 2
    apply Fin.ext
    show c.val - 128 = c.val % 128
    omega

theorem rhs0_apply (w : Fin 16 → FVec Ideal S64x128 .bf16) (k c : Fin 256) (p : Fin 64) (hp : p.val = 16 * (c.val / 128) + k.val % 16) :
    rhs0 w (ix2 k c) = w ⟨k.val / 16, by omega⟩ (ix2 p ⟨c.val % 128, by omega⟩) := by
  have hc := c.isLt
  unfold rhs0
  rw [side_apply]
  split
  · exact quarter_apply w 0 _ k _ p (by omega)
  · exact quarter_apply w 1 _ k _ p (by omega)

theorem rhs1_apply (w : Fin 16 → FVec Ideal S64x128 .bf16) (k c : Fin 256) (p : Fin 64) (hp : p.val = 32 + 16 * (c.val / 128) + k.val % 16) :
    rhs1 w (ix2 k c) = w ⟨k.val / 16, by omega⟩ (ix2 p ⟨c.val % 128, by omega⟩) := by
  have hc := c.isLt
  unfold rhs1
  rw [side_apply]
  split
  · exact quarter_apply w 2 _ k _ p (by omega)
  · exact quarter_apply w 3 _ k _ p (by omega)

theorem cast112 {A : Type} (x : S1x112x256.Idx → A) (r : Fin 112) (c : Fin 256) :
    shapeCast S112x256 x shapeCasts_S1x112x256_S112x256 (ix2 r c) = x (ix3 0 r c) := by
  pointwise
theorem cast1 {A : Type} (x : S112x256.Idx → A) (r : Fin 112) (c : Fin 256) :
    shapeCast S1x112x256 x shapeCasts_S112x256_S1x112x256 (ix3 0 r c) = x (ix2 r c) := by
  pointwise

theorem accRect_emb (n : ℕ) (h : n < 2) (r : Fin 112) (c : Fin 256) : (accRect n h).emb (ix3 0 r c) = (ix3 ⟨n, h⟩ r c : S2x112x256.Idx) := by
  funext a
  match a with
  | ⟨0, _⟩ => exact Fin.ext (by show n + 1 * 0 = n; omega)
  | ⟨1, _⟩ => exact Fin.ext (by show 0 + 1 * r.val = r.val; omega)
  | ⟨2, _⟩ => exact Fin.ext (by show 0 + 1 * c.val = c.val; omega)

theorem accAdd_hit (a : S2x112x256.Idx → Elt Ideal .f32) (n : ℕ) (h : n < 2) (v : FVec Ideal S112x256 .f32) (r : Fin 112) (c : Fin 256) :
    accAdd a n h v (ix3 ⟨n, h⟩ r c) = (a (ix3 ⟨n, h⟩ r c) + v (ix2 r c) : EReal) := by
  unfold accAdd
  have e := accRect_emb n h r c
  rw [← e, wr_emb, cast1]
  show (shapeCast S112x256 (rd a (accRect n h).toLoadRect) shapeCasts_S1x112x256_S112x256 (ix2 r c) + v (ix2 r c) : EReal) = _
  rw [cast112]
  rfl

theorem accAdd_miss (a : S2x112x256.Idx → Elt Ideal .f32) (n : ℕ) (h : n < 2) (v : FVec Ideal S112x256 .f32) (n' : Fin 2) (hn : n'.val ≠ n) (r : Fin 112) (c : Fin 256) :
    accAdd a n h v (ix3 n' r c) = a (ix3 n' r c) := by
  unfold accAdd
  rw [wr_off]
  intro x hx
  have h0 : (x 0).val < 1 := (x 0).isLt
  have := congrArg (fun z : S2x112x256.Idx => (z 0).val) hx
  have this : n + 1 * (x 0).val = n'.val := this
  omega

variable (G : S16384.Idx → Elt Ideal .i32) (Q : S8192x7168.Idx → BitVec 8) (X : S8x16384.Idx → Elt Ideal .bf16) (T : S128x128x128.Idx → Elt Ideal .bf16)
  (hG : ∀ x, (G x : BitVec 32).toNat < 128)

/-- Sixteen rows' products with the activations. -/
theorem prod_row (X2 : S256x7168.Idx → Elt Ideal .i8) (i : grid0.Coords) (hX2 : ∀ (r : Fin 256) (n : Fin 7168), X2 (ix2 r n) = Q (ix2 ⟨256 * (i 0).val + r.val, by have : (i 0).val < 32 := (i 0).isLt; omega⟩ n))
    (t : Fin k0_t1_loop.trips) (Y : S456x128.Idx → Elt Ideal .i32) (t' : Fin 4) (c : Fin 56) (b : Fin 8) (l : Fin 128)
    (R : FVec Ideal S256x256 .bf16)
    (hR : ∀ k : Fin 256, k.val % 16 = (prow c).val % 16 → R (ix2 k ⟨128 * (c.val / 14 % 2) + l.val, by omega⟩) = row G T hG (relay X2 t Y 56 (le_refl _)) i t t' ⟨k.val / 16, by omega⟩ (ix2 (prow c) l)) :
    prod (left X i t t'.val) R (ix2 ⟨56 * (c.val / 7 % 2) + 8 * (c.val % 7) + b.val, by omega⟩ ⟨128 * (c.val / 14 % 2) + l.val, by omega⟩)
      = ∑ r : Fin 16, term G Q X T hG c b l (64 * (8 * (i 0).val + t.val) + 16 * t'.val + r.val) := by
  have hi : (i 0).val < 32 := (i 0).isLt
  have ht : t.val < 8 := t.isLt
  have htt := t'.isLt
  have hc := c.isLt
  have hb := b.isLt
  have hl := l.isLt
  have hj : (prow c).val % 16 < 16 := by omega
  have hpr : (prow c).val = 8 * (c.val / 7) + c.val % 7 := rfl
  rw [prod_apply]
  have e1 : ∀ k : Fin 256, left X i t t'.val (ix2 ⟨56 * (c.val / 7 % 2) + 8 * (c.val % 7) + b.val, by omega⟩ k)
      = if k.val % 16 = (⟨(prow c).val % 16, hj⟩ : Fin 16).val then (fun r : Fin 16 => X (ix2 b ⟨64 * (8 * (i 0).val + t.val) + 16 * t'.val + r.val, by omega⟩)) ⟨k.val / 16, by omega⟩ else 0 := by
    intro k
    have hk := k.isLt
    rw [left_apply X i t t' _ k (ix2 b ⟨64 * (8 * (i 0).val + t.val) + 16 * t'.val + k.val / 16, by omega⟩) (by show b.val = (56 * (c.val / 7 % 2) + 8 * (c.val % 7) + b.val) % 8; omega) rfl]
    have e2 : (taps ⟨(⟨56 * (c.val / 7 % 2) + 8 * (c.val % 7) + b.val, by omega⟩ : Fin 112).val / 8, by omega⟩).val = (prow c).val % 16 := by
      show (taps ⟨(56 * (c.val / 7 % 2) + 8 * (c.val % 7) + b.val) / 8, by omega⟩).val = _
      unfold taps
      dsimp only
      split <;> dsimp only <;> omega
    rw [e2]
  rw [Finset.sum_congr rfl (fun k _ => congrArg (fun z : EReal => z * R (ix2 k ⟨128 * (c.val / 14 % 2) + l.val, by omega⟩)) (e1 k))]
  rw [sum_taps ⟨(prow c).val % 16, hj⟩ (fun r : Fin 16 => X (ix2 b ⟨64 * (8 * (i 0).val + t.val) + 16 * t'.val + r.val, by omega⟩)) (fun k => R (ix2 k ⟨128 * (c.val / 14 % 2) + l.val, by omega⟩))]
  refine Finset.sum_congr rfl fun r _ => ?_
  have hr := r.isLt
  have hK : 64 * (8 * (i 0).val + t.val) + 16 * t'.val + r.val < 16384 := by omega
  rw [hR ⟨16 * r.val + (prow c).val % 16, by omega⟩ (by show (16 * r.val + (prow c).val % 16) % 16 = _; omega)]
  have e3 : (⟨(⟨16 * r.val + (prow c).val % 16, by omega⟩ : Fin 256).val / 16, by omega⟩ : Fin 16) = r := Fin.ext (by show (16 * r.val + (prow c).val % 16) / 16 = r.val; omega)
  rw [e3]
  unfold term
  rw [dif_pos hK]
  congr 1
  rw [row_apply G X2 T hG Y i t t' r (prow c) l (by omega) (ix2 ⟨32 * t.val + 8 * t'.val + r.val / 2, by omega⟩ ⟨128 * c.val + l.val, by omega⟩) rfl
    (by show 128 * c.val + l.val = 128 * (7 * ((prow c).val / 8) + (prow c).val % 8) + l.val; omega) (ix1 ⟨_, hK⟩) rfl
    (ix3 ⟨(G (ix1 ⟨_, hK⟩)).toNat, hG _⟩ ⟨64 + (prow c).val, by omega⟩ l) rfl rfl rfl (ix3 ⟨(G (ix1 ⟨_, hK⟩)).toNat, hG _⟩ ⟨(prow c).val, by omega⟩ l) rfl rfl rfl]
  rw [hX2]
  have e4 : (⟨256 * (i 0).val + (⟨32 * t.val + 8 * t'.val + r.val / 2, by omega⟩ : Fin 256).val, by show 256 * (i 0).val + (32 * t.val + 8 * t'.val + r.val / 2) < 8192; omega⟩ : Fin 8192) = ⟨(64 * (8 * (i 0).val + t.val) + 16 * t'.val + r.val) / 2, by omega⟩ :=
    Fin.ext (by show 256 * (i 0).val + (32 * t.val + 8 * t'.val + r.val / 2) = (64 * (8 * (i 0).val + t.val) + 16 * t'.val + r.val) / 2; omega)
  have e5 : (64 * (8 * (i 0).val + t.val) + 16 * t'.val + r.val) % 2 = r.val % 2 := by omega
  rw [e4, e5]

/-- A trip's sum. -/
theorem sum_trip (f : ℕ → EReal) (k0 : ℕ) :
    (∑ r : Fin 16, f (k0 + 16 * 0 + r.val)) + (∑ r : Fin 16, f (k0 + 16 * 1 + r.val)) + (∑ r : Fin 16, f (k0 + 16 * 2 + r.val)) + (∑ r : Fin 16, f (k0 + 16 * 3 + r.val))
      = ∑ K ∈ Finset.range 64, f (k0 + K) := by
  have h := fun n => Finset.sum_range_add (fun K => f (k0 + K)) n 16
  rw [h 48, h 32, h 16]
  simp only [Finset.sum_range (n := 16), ← Nat.add_assoc, Nat.reduceMul, Nat.add_zero]

theorem trip_val (X2 : S256x7168.Idx → Elt Ideal .i8) (i : grid0.Coords) (hX2 : ∀ (r : Fin 256) (n : Fin 7168), X2 (ix2 r n) = Q (ix2 ⟨256 * (i 0).val + r.val, by have : (i 0).val < 32 := (i 0).isLt; omega⟩ n))
    (t : Fin k0_t1_loop.trips) (Y : S456x128.Idx → Elt Ideal .i32) (a : S2x112x256.Idx → Elt Ideal .f32) (c : Fin 56) (b : Fin 8) (l : Fin 128) :
    tripA G X T hG i t (relay X2 t Y 56 (le_refl _)) a (accPos c b l)
      = (a (accPos c b l) + ∑ K ∈ Finset.range 64, term G Q X T hG c b l (64 * (8 * (i 0).val + t.val) + K) : EReal) := by
  have hc := c.isLt
  have hl := l.isLt
  have hpr : (prow c).val = 8 * (c.val / 7) + c.val % 7 := rfl
  rw [← sum_trip]
  unfold tripA accPos
  by_cases h : c.val < 28
  · have e : (⟨c.val / 28, by omega⟩ : Fin 2) = ⟨0, by decide⟩ := Fin.ext (by show c.val / 28 = 0; omega)
    rw [e, accAdd_miss _ 1 _ _ ⟨0, by decide⟩ (by decide), accAdd_hit]
    congr 1
    have key := fun t' : Fin 4 => prod_row G Q X T hG X2 i hX2 t Y t' c b l (rhs0 (row G T hG (relay X2 t Y 56 (le_refl _)) i t t')) (fun k hk => by
      rw [rhs0_apply _ k _ (prow c) (by show (prow c).val = 16 * ((128 * (c.val / 14 % 2) + l.val) / 128) + k.val % 16; omega)]
      congr 2
      exact Fin.ext (by show (128 * (c.val / 14 % 2) + l.val) % 128 = l.val; omega))
    exact congrArg₂ (· + ·) (congrArg₂ (· + ·) (congrArg₂ (· + ·) (key ⟨0, by decide⟩) (key ⟨1, by decide⟩)) (key ⟨2, by decide⟩)) (key ⟨3, by decide⟩)
  · have e : (⟨c.val / 28, by omega⟩ : Fin 2) = ⟨1, by decide⟩ := Fin.ext (by show c.val / 28 = 1; omega)
    rw [e, accAdd_hit, accAdd_miss _ 0 _ _ ⟨1, by decide⟩ (by decide)]
    congr 1
    have key := fun t' : Fin 4 => prod_row G Q X T hG X2 i hX2 t Y t' c b l (rhs1 (row G T hG (relay X2 t Y 56 (le_refl _)) i t t')) (fun k hk => by
      rw [rhs1_apply _ k _ (prow c) (by show (prow c).val = 32 + 16 * ((128 * (c.val / 14 % 2) + l.val) / 128) + k.val % 16; omega)]
      congr 2
      exact Fin.ext (by show (128 * (c.val / 14 % 2) + l.val) % 128 = l.val; omega))
    exact congrArg₂ (· + ·) (congrArg₂ (· + ·) (congrArg₂ (· + ·) (key ⟨0, by decide⟩) (key ⟨1, by decide⟩)) (key ⟨2, by decide⟩)) (key ⟨3, by decide⟩)

end Cert.Hand.KI

end
-- ==== Proof.BodyVal.lean ====
/-
  What a grid step leaves in the accumulators and, at the last step, in the output block.
-/
module

public import proofs.«01_k».proof.Proof.TripVal
public import proofs.«01_k».proof.Proof.BodyFn

@[expose] public section

set_option maxRecDepth 16384

noncomputable section

namespace Cert.Hand.KI

open Cert.KernelIdeal Cert.KernelIdeal.Gen
open Idealize.ShloMosaic Idealize.ShloMosaic.TcCoe

theorem first_all : ∀ n : Fin 32, Scalar.cmpi .ne (Scalar.extui (Scalar.cmpi .eq (BitVec.ofNat 32 n.val) 0#32) : BitVec 32) 0#32 = 1#1 ↔ n.val = 0 := by
  decide +kernel
theorem first_iff (i : grid0.Coords) : Scalar.cmpi .ne (Scalar.extui (Scalar.cmpi .eq (BitVec.ofNat 32 (i 0).val) 0#32) : BitVec 32) 0#32 = 1#1 ↔ (i 0).val = 0 :=
  first_all (i 0)
theorem last_all : ∀ n : Fin 32, k0_cond2 (fun a => match a with | ⟨0, _⟩ => n) = 1#1 ↔ n.val = 31 := by
  decide +kernel
theorem last_iff (i : grid0.Coords) : k0_cond2 i = 1#1 ↔ (i 0).val = 31 := last_all (i 0)

theorem pay_zero (j : S2x112x256.Idx) : k0_pay755 (F := Ideal) j = (0 : EReal) := by
  show Ideal.ofBits .f32 0x00000000#32 = 0
  exact Ideal.ofBits_zero_f32

theorem start_a (i : grid0.Coords) (σ : St (Elt Ideal)) (j : S2x112x256.Idx) : (start i σ).a j = if (i 0).val = 0 then (0 : EReal) else σ.a j := by
  unfold start
  by_cases h : (i 0).val = 0
  · rw [if_pos h, if_pos ((first_iff i).2 h)]
    have e : (Rect.unit (s := S2x112x256) ![0, 0, 0] S2x112x256.size inb_S2x112x256_S2x112x256_0_0_0).emb j = j := by
      funext a
      match a with
      | ⟨0, _⟩ => exact Fin.ext (by show 0 + 1 * (j 0).val = (j 0).val; omega)
      | ⟨1, _⟩ => exact Fin.ext (by show 0 + 1 * (j 1).val = (j 1).val; omega)
      | ⟨2, _⟩ => exact Fin.ext (by show 0 + 1 * (j 2).val = (j 2).val; omega)
    show wr σ.a _ _ j = _
    conv_lhs => rw [← e]
    rw [wr_emb, pay_zero]
  · rw [if_neg h, if_neg (fun hh => h ((first_iff i).1 hh))]

theorem start_o (i : grid0.Coords) (σ : St (Elt Ideal)) : (start i σ).o = σ.o := by
  unfold start
  split <;> rfl

theorem outVal_apply (a : S2x112x256.Idx → Elt Ideal .f32) (c : Fin 56) (b : Fin 8) (l : Fin 128) :
    outVal a c.val c.isLt (ix2 b l) = a (accPos c b l) := by
  have hc := c.isLt
  have hb := b.isLt
  have hl := l.isLt
  have e := cast112 (rd a (accRect (c.val / 28) (by omega)).toLoadRect) ⟨56 * (c.val / 7 % 2) + 8 * (c.val % 7) + b.val, by omega⟩ ⟨128 * (c.val / 14 % 2) + l.val, by omega⟩
  have e2 := accRect_emb (c.val / 28) (by omega) ⟨56 * (c.val / 7 % 2) + 8 * (c.val % 7) + b.val, by omega⟩ ⟨128 * (c.val / 14 % 2) + l.val, by omega⟩
  unfold accPos
  refine Eq.trans ?_ (Eq.trans e (congrArg a e2))
  unfold outVal
  show shapeCast S112x256 (rd a (accRect (c.val / 28) _).toLoadRect) shapeCasts_S1x112x256_S112x256 _ = _
  congr 1
  funext d
  match d with
  | ⟨0, _⟩ => rfl
  | ⟨1, _⟩ => rfl

theorem outRect_emb (c : ℕ) (h : c < 56) (b : Fin 8) (l : Fin 128) (y : S8x7168.Idx) (h0 : (y 0).val = b.val) (h1 : (y 1).val = 128 * c + l.val) :
    (outRect c h).emb (ix2 b l) = y := by
  funext a
  match a with
  | ⟨0, _⟩ =>
    apply Fin.ext
    refine Eq.trans ?_ h0.symm
    show 0 + 1 * b.val = _
    omega
  | ⟨1, _⟩ =>
    apply Fin.ext
    refine Eq.trans ?_ h1.symm
    show 128 * c + 1 * l.val = _
    omega

theorem outs_apply (a : S2x112x256.Idx → Elt Ideal .f32) (o : S8x7168.Idx → Elt Ideal .bf16) (c : Fin 56) (b : Fin 8) (l : Fin 128) (y : S8x7168.Idx)
    (h0 : (y 0).val = b.val) (h1 : (y 1).val = 128 * c.val + l.val) :
    ∀ (n : ℕ) (hn : n ≤ 56), c.val < n → outs a o n hn y = a (accPos c b l)
  | 0, _, h => absurd h (Nat.not_lt_zero _)
  | n + 1, hn, h => by
    rw [outs]
    by_cases e : c.val = n
    · subst e
      rw [← outRect_emb c.val hn b l y h0 h1, wr_emb]
      exact outVal_apply a c b l
    · rw [wr_off]
      · exact outs_apply a o c b l y h0 h1 n _ (by omega)
      · intro x hx
        have hl := l.isLt
        have hx0 : (x 1).val < 128 := (x 1).isLt
        have := congrArg (fun z : S8x7168.Idx => (z 1).val) hx
        simp only [h1] at this
        have this : 128 * n + 1 * (x 1).val = 128 * c.val + l.val := this
        omega

variable (G : S16384.Idx → Elt Ideal .i32) (Q : S8192x7168.Idx → BitVec 8) (X : S8x16384.Idx → Elt Ideal .bf16) (T : S128x128x128.Idx → Elt Ideal .bf16)
  (hG : ∀ x, (G x : BitVec 32).toNat < 128)

theorem iter_val (X2 : S256x7168.Idx → Elt Ideal .i8) (i : grid0.Coords) (hX2 : ∀ (r : Fin 256) (n : Fin 7168), X2 (ix2 r n) = Q (ix2 ⟨256 * (i 0).val + r.val, by have : (i 0).val < 32 := (i 0).isLt; omega⟩ n))
    (σ : St (Elt Ideal)) (c : Fin 56) (b : Fin 8) (l : Fin 128) : ∀ n : ℕ, n ≤ 8 →
    (iter (fun (t : Fin k0_t1_loop.trips) σ => tripOut G X2 X T hG i t σ) σ n).a (accPos c b l)
      = (σ.a (accPos c b l) + ∑ K ∈ Finset.range (64 * n), term G Q X T hG c b l (512 * (i 0).val + K) : EReal)
  | 0, _ => by
    rw [iter, Nat.mul_zero, Finset.range_zero, Finset.sum_empty]
    exact (add_zero (σ.a (accPos c b l) : EReal)).symm
  | n + 1, h => by
    rw [iter, dif_pos (show n < k0_t1_loop.trips from h)]
    refine Eq.trans (trip_val G Q X T hG X2 i hX2 ⟨n, h⟩ _ _ c b l) ?_
    rw [iter_val X2 i hX2 σ c b l n (by omega)]
    rw [Nat.mul_succ, Finset.sum_range_add, add_assoc]
    congr 2
    refine Finset.sum_congr rfl fun K _ => ?_
    congr 1
    show 64 * (8 * (i 0).val + n) + K = _
    omega

theorem iter_o (X2 : S256x7168.Idx → Elt Ideal .i8) (i : grid0.Coords) (σ : St (Elt Ideal)) : ∀ n : ℕ,
    (iter (fun (t : Fin k0_t1_loop.trips) σ => tripOut G X2 X T hG i t σ) σ n).o = σ.o
  | 0 => rfl
  | n + 1 => by
    rw [iter]
    split
    · exact iter_o X2 i σ n
    · exact iter_o X2 i σ n

/-- The accumulators hold the first `512 j` terms. -/
def Inv (j : ℕ) (a : S2x112x256.Idx → Elt Ideal .f32) : Prop :=
  ∀ (c : Fin 56) (b : Fin 8) (l : Fin 128), a (accPos c b l) = (∑ K ∈ Finset.range (512 * j), term G Q X T hG c b l K : EReal)

theorem trips_val (X2 : S256x7168.Idx → Elt Ideal .i8) (i : grid0.Coords) (hX2 : ∀ (r : Fin 256) (n : Fin 7168), X2 (ix2 r n) = Q (ix2 ⟨256 * (i 0).val + r.val, by have : (i 0).val < 32 := (i 0).isLt; omega⟩ n))
    (σ : St (Elt Ideal)) (h : (i 0).val ≠ 0 → Inv G Q X T hG (i 0).val σ.a) : Inv G Q X T hG ((i 0).val + 1) (trips G X2 X T hG i σ).a := by
  intro c b l
  unfold trips
  refine Eq.trans (iter_val G Q X T hG X2 i hX2 (start i σ) c b l 8 (le_refl _)) ?_
  have e : 512 * ((i 0).val + 1) = 512 * (i 0).val + 64 * 8 := by omega
  rw [start_a, e, Finset.sum_range_add _ (512 * (i 0).val) (64 * 8)]
  by_cases h0 : (i 0).val = 0
  · rw [if_pos h0, h0, Nat.mul_zero, Finset.range_zero, Finset.sum_empty]
  · rw [if_neg h0, h h0 c b l]

/-- The output: all the terms. -/
def outAll (y : S8x7168.Idx) : EReal :=
  ∑ K ∈ Finset.range 16384, term G Q X T hG ⟨(y 1).val / 128, by have : (y 1).val < 7168 := (y 1).isLt; omega⟩ (y 0) ⟨(y 1).val % 128, by omega⟩ K

theorem body_val (X2 : S256x7168.Idx → Elt Ideal .i8) (i : grid0.Coords) (hX2 : ∀ (r : Fin 256) (n : Fin 7168), X2 (ix2 r n) = Q (ix2 ⟨256 * (i 0).val + r.val, by have : (i 0).val < 32 := (i 0).isLt; omega⟩ n))
    (σ : St (Elt Ideal)) (h : (i 0).val ≠ 0 → Inv G Q X T hG (i 0).val σ.a) :
    Inv G Q X T hG ((i 0).val + 1) (bodyOut G X2 X T hG i σ).a ∧ ((i 0).val = 31 → (bodyOut G X2 X T hG i σ).o = outAll G Q X T hG) := by
  have ht := trips_val G Q X T hG X2 i hX2 σ h
  unfold bodyOut
  by_cases hl : (i 0).val = 31
  · rw [if_pos ((last_iff i).2 hl)]
    refine ⟨ht, fun _ => ?_⟩
    funext y
    have hy : (y 1).val < 7168 := (y 1).isLt
    refine Eq.trans (outs_apply _ _ ⟨(y 1).val / 128, by omega⟩ (y 0) ⟨(y 1).val % 128, by omega⟩ y rfl (by show (y 1).val = 128 * ((y 1).val / 128) + (y 1).val % 128; omega) 56 (le_refl _) (by show (y 1).val / 128 < 56; omega)) ?_
    refine Eq.trans (ht _ _ _) ?_
    rw [hl]
    rfl
  · rw [if_neg (fun hh => hl ((last_iff i).1 hh))]
    exact ⟨ht, fun hh => absurd hh hl⟩

end Cert.Hand.KI

end
-- ==== Proof.LaunchV.lean ====
/-
  The idealized kernel's run with the values it leaves: the output is the sum of all the terms.
-/
module

public import proofs.«01_k».proof.Proof.LaunchKI
public import proofs.«01_k».proof.Proof.BodyEq
public import proofs.«01_k».proof.Proof.BodyVal
public import Idealize.ShloMosaic.Lib.Pipeline.ArrRel

@[expose] public section

noncomputable section

namespace Cert.Hand.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable (m : (ℓ : Loc nD τ sig) → Buf (Elt Ideal) ℓ) (ρ : Dev nD → PrngReg)
variable (hX : ∀ x, (V m 0 main_arg4 x : BitVec 32).toNat < 128)

/-- The accumulators hold the terms of the first `j` steps. -/
def InvV (c : Dev nD) (j : ℕ) (a : S2x112x256.Idx → Elt Ideal .f32) : Prop :=
  Inv (V m 0 main_arg4) (V m c main_arg1) (V m c main_v15) (V m c main_v14) hX j a

/-- The output: all the terms. -/
def outV (c : Dev nD) : S8x7168.Idx → Elt Ideal .bf16 :=
  outAll (V m 0 main_arg4) (V m c main_arg1) (V m c main_v15) (V m c main_v14) hX

/-- What is left in each window's buffer: an input as found, the output the sum of all the terms once the last step ends. -/
def keeps (c : Dev nD) : (w : Fin 4) → Fin grid0.N → (Y X : (spec0 w).block.Idx → Elt Ideal (spec0 w).elt) → Prop :=
  fun
  | 0 => fun _ Y X => X = Y
  | 1 => fun _ Y X => X = Y
  | 2 => fun _ Y X => X = Y
  | 3 => fun t Y X => t.val = 31 → X = outV m hX c
  | ⟨_ + 4, h⟩ => absurd h (Nat.not_lt.2 (Nat.le_add_left _ _))

/-- What is held between the grid steps: the scratch, the accumulators summed so far, and the group numbers. -/
def inv (c : Dev nD) (t : Fin (grid0.N + 1)) : sProp (MM nD τ sig (Elt Ideal)) :=
  iprop(((∃ f, owns c.tc (Memref.whole cc0_scratch0) fullShare f) ∗ (∃ f, ⌜t.val ≠ 0 → InvV m hX c t.val f⌝ ∗ owns c.tc (Memref.whole cc0_scratch1) fullShare f))
      ∗ (∃ r, prngReg c r) ∗ owns c.tc (Memref.whole main_arg4) (fullShare.right) (V m 0 main_arg4))

/-- The run's data. -/
def rdat (c : Dev nD) : RDat τ (Elt Ideal) Unit ℕ (UR sig nD τ) ℕ (Pipeline.pin pcfgs (tbl m) 0) c where
  A w := V m c (Pipeline.arrRef (Pipeline.pin pcfgs (tbl m) 0).spec w)
  after w t := keeps m hX c w t
  Φ t := inv m hX c t
  q _ := fullShare
  owed _ := 0

theorem coord_val : ∀ t : Fin grid0.N, (grid0.coords t 0).val = t.val := by decide +kernel

theorem block_all : ∀ n : Fin 32, cc0_transform_0 (fun a => match a with | ⟨0, _⟩ => n) 0 = n.val ∧ cc0_transform_0 (fun a => match a with | ⟨0, _⟩ => n) 1 = 0 := by decide +kernel
theorem block_val (i : grid0.Coords) : cc0_transform_0 i 0 = (i 0).val := (block_all (i 0)).1
theorem block_val1 (i : grid0.Coords) : cc0_transform_0 i 1 = 0 := (block_all (i 0)).2

theorem found0 (c : Dev nD) (t : Fin grid0.N) (Y) (h : (rdat m hX c).Finds (0 : Fin 4) t Y) (r : Fin 256) (n : Fin 7168) :
    Y (ix2 r n) = V m c main_arg1 (ix2 ⟨256 * (grid0.coords t 0).val + r.val, by have : (grid0.coords t 0).val < 32 := (grid0.coords t 0).isLt; omega⟩ n) := by
  obtain ⟨d, rfl⟩ := (rdat m hX c).finds_in_eq_fetched (0 : Fin 4) rfl (fun _ _ _ => rfl) (fun _ _ _ h => h) t Y h
  show V m c main_arg1 _ = _
  congr 1
  funext a
  match a with
  | ⟨0, _⟩ =>
    apply Fin.ext
    show cc0_transform_0 (grid0.coords t) 0 * 256 + 1 * r.val = 256 * (grid0.coords t 0).val + r.val
    rw [block_val]
    omega
  | ⟨1, _⟩ =>
    apply Fin.ext
    show cc0_transform_0 (grid0.coords t) 1 * 7168 + 1 * n.val = n.val
    rw [block_val1]
    omega

theorem found1 (c : Dev nD) (t : Fin grid0.N) (Y) (h : (rdat m hX c).Finds (1 : Fin 4) t Y) : Y = V m c main_v15 := by
  obtain ⟨d, rfl⟩ := (rdat m hX c).finds_in_eq_fetched (1 : Fin 4) rfl (fun _ _ _ => rfl) (fun _ _ _ h => h) t Y h
  funext j
  show V m c main_v15 _ = _
  congr 1
  funext a
  match a with
  | ⟨0, _⟩ =>
    apply Fin.ext
    show 0 * 8 + 1 * (j 0).val = (j 0).val
    omega
  | ⟨1, _⟩ =>
    apply Fin.ext
    show 0 * 16384 + 1 * (j 1).val = (j 1).val
    omega

theorem found2 (c : Dev nD) (t : Fin grid0.N) (Y) (h : (rdat m hX c).Finds (2 : Fin 4) t Y) : Y = V m c main_v14 := by
  obtain ⟨d, rfl⟩ := (rdat m hX c).finds_in_eq_fetched (2 : Fin 4) rfl (fun _ _ _ => rfl) (fun _ _ _ h => h) t Y h
  funext j
  show V m c main_v14 _ = _
  congr 1
  funext a
  match a with
  | ⟨0, _⟩ =>
    apply Fin.ext
    show 0 * 128 + 1 * (j 0).val = (j 0).val
    omega
  | ⟨1, _⟩ =>
    apply Fin.ext
    show 0 * 128 + 1 * (j 1).val = (j 1).val
    omega
  | ⟨2, _⟩ =>
    apply Fin.ext
    show 0 * 128 + 1 * (j 2).val = (j 2).val
    omega

theorem inv_eq (c : Dev nD) (t) : (rdat m hX c).Φ t = inv m hX c t := rfl

theorem owesR_eq (c : Dev nD) (s s') : (rdat m hX c).owesAt () s = (rdat m hX c).owesAt () s' := rfl

theorem bodyV_ok (c : Dev nD) : (rdat m hX c).BodyObligation (defs₀ (F := Ideal)) Variants.none () Set.univ := fun t Y hY => by
  rw [inv_eq, inv_eq, owesR_eq m hX c t.succ t.castSucc]
  erw [bigSep_W0, bigSep_W0]
  dsimp only
  unfold inv
  iintro ⟨⟨⟨⟨%f0, S0⟩, ⟨%f1, %hf1, S1⟩⟩, R, T⟩, ⟨Ow, W1, W2, W3, W4⟩⟩
  have h := body_run (F := Ideal) c fullShare.right (grid0.coords t) (Memref.whole main_arg4) (Memref.isWhole_whole _) (spec0_0.stage ((Pipeline.pin pcfgs (tbl m) 0).slots t (0 : Fin 4))) (hstage0_0 (((Pipeline.pin pcfgs (tbl m) 0).slots t (0 : Fin 4)).cast nbuf0_0)) (spec0_1.stage ((Pipeline.pin pcfgs (tbl m) 0).slots t (1 : Fin 4))) (hstage0_1 (((Pipeline.pin pcfgs (tbl m) 0).slots t (1 : Fin 4)).cast nbuf0_1))
    (spec0_2.stage ((Pipeline.pin pcfgs (tbl m) 0).slots t (2 : Fin 4))) (hstage0_2 (((Pipeline.pin pcfgs (tbl m) 0).slots t (2 : Fin 4)).cast nbuf0_2)) (spec0_3.stage ((Pipeline.pin pcfgs (tbl m) 0).slots t (3 : Fin 4))) (hstage0_3 (((Pipeline.pin pcfgs (tbl m) 0).slots t (3 : Fin 4)).cast nbuf0_3)) (Memref.whole cc0_scratch0) (Memref.isWhole_whole _) (Memref.whole cc0_scratch1) (Memref.isWhole_whole _)
    (V m 0 main_arg4) (Y (0 : Fin 4)) (Y (1 : Fin 4)) (Y (2 : Fin 4)) hX ⟨Y (3 : Fin 4), f0, f1⟩
  have e1 := found1 m hX c t (Y (1 : Fin 4)) (hY (1 : Fin 4))
  have e2 := found2 m hX c t (Y (2 : Fin 4)) (hY (2 : Fin 4))
  have hv := body_val (V m 0 main_arg4) (V m c main_arg1) (V m c main_v15) (V m c main_v14) hX (Y (0 : Fin 4)) (grid0.coords t)
    (fun r n => found0 m hX c t (Y (0 : Fin 4)) (hY (0 : Fin 4)) r n) ⟨Y (3 : Fin 4), f0, f1⟩ (fun hne => by rw [coord_val] at hne ⊢; exact hf1 hne)
  rw [coord_val] at hv
  have hv1 : InvV m hX c (t.val + 1) (bodyOut (V m 0 main_arg4) (Y (0 : Fin 4)) (Y (1 : Fin 4)) (Y (2 : Fin 4)) hX (grid0.coords t) ⟨Y (3 : Fin 4), f0, f1⟩).a := by
    rw [e1, e2]; exact hv.1
  have hv2 : t.val = 31 → (bodyOut (V m 0 main_arg4) (Y (0 : Fin 4)) (Y (1 : Fin 4)) (Y (2 : Fin 4)) hX (grid0.coords t) ⟨Y (3 : Fin 4), f0, f1⟩).o = outV m hX c := by
    rw [e1, e2]; exact hv.2
  iapply (h.last _) $$ [T W1 W2 W3 W4 S0 S1]
  · unfold held
    isplitl [T]; · iexact T
    isplitl [W1]; · iexact W1
    isplitl [W2]; · iexact W2
    isplitl [W3]; · iexact W3
    isplitl [W4]; · iexact W4
    isplitl [S0]; · iexact S0
    iexact S1
  · unfold held
    iintro ⟨T, W1, W2, W3, W4, S0, S1⟩
    isplitl [T S0 S1 R]
    · isplitl [S0 S1]
      · isplitl [S0]
        · iexists _; iexact S0
        · iexists _
          isplitr
          · ipureintro; exact fun _ => hv1
          · iexact S1
      · isplitl [R]; · iexact R
        iexact T
    · isplitl [Ow]; · iexact Ow
      isplitl [W1]
      · iexists _; isplitr; swap; · iexact W1
        ipureintro; rfl
      isplitl [W2]
      · iexists _; isplitr; swap; · iexact W2
        ipureintro; rfl
      isplitl [W3]
      · iexists _; isplitr; swap; · iexact W3
        ipureintro; rfl
      iexists _; isplitr; swap; · iexact W4
      ipureintro; exact hv2

theorem ΦA_eq (c : Dev nD) : (Pipeline.ΦA spec0 c : sProp (MM nD τ sig (Elt Ideal)))
    = iprop(((∃ f, owns c.tc (Memref.whole cc0_scratch0) fullShare f) ∗ (∃ f, owns c.tc (Memref.whole cc0_scratch1) fullShare f)) ∗ ∃ r, prngReg c r) := by
  rw [← scoped_eq]; rfl

theorem whole3 : ((Pipeline.pin pcfgs (tbl m) 0).win (3 : Fin 4)).WholeAt (⟨31, by show 31 < 32; decide⟩ : Fin grid0.N) :=
  ⟨(Pipeline.Window.flush_const _ rfl (fun _ _ => rfl) (n := 32) (m := 31) rfl rfl _).2 rfl,
    fun t ht => Fin.ext (by
      have h := (Pipeline.Window.flush_const _ rfl (fun _ _ => rfl) (n := 32) (m := 31) rfl rfl t).1 ht
      have h2 : t.val < 32 := t.isLt
      show t.val = 31
      omega),
    fun (a : Fin 2) => match a with
      | 0 => ⟨rfl, rfl⟩
      | 1 => ⟨rfl, rfl⟩⟩

/-- The run ends with the output at the sum of all the terms, the arguments as they were. -/
theorem runV :
    θ_run defs (onTc (τ := τ) (main (F := Ideal))) ⟨m, fun _ => 0, ρ⟩ (fun r => ∀ c : Dev nD,
      r.2.mem ((c.tc : Thread nD τ).loc main_v16) = outV m hX c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine RDat.θ_run_frameP_track pcfgs (tbl m) 0 launch0 defs₀ Variants.none (rdat m hX) m ρ main
    (bodyV_ok m hX) (fun c w => by unfold RDat.share; split <;> rfl) (fun _ _ => rfl) (V m) (hmain m)
    (fun _ _ => rfl) (fun c k => by rw [Subsingleton.elim c 0]; rfl) (fun c => ?_) (fun c => ?_) _ (fun r h c => ?_)
  · rw [inv_eq]
    refine (show iprop(Pipeline.ΦA spec0 c ∗ Pipeline.ΦT pre0 (tbl m 0).1 c) ⊢ inv m hX c 0 from ?_)
    rw [ΦA_eq, ΦT_eq]
    unfold inv
    iintro ⟨⟨⟨S0, ⟨%f, S1⟩⟩, R⟩, T⟩
    isplitl [S0 S1]
    · isplitl [S0]; · iexact S0
      iexists _
      isplitr; swap; · iexact S1
      ipureintro; exact fun h => absurd rfl h
    · isplitl [R]; · iexact R
      rw [Subsingleton.elim c 0]
      iexact T
  · rw [inv_eq]
    refine (show inv m hX c _ ⊢ Pipeline.ΦA spec0 c from ?_)
    rw [ΦA_eq]
    unfold inv
    iintro ⟨⟨S0, ⟨%f, %hf, S1⟩⟩, R, T⟩
    isplitl [S0 S1]
    · isplitl [S0]; · iexact S0
      iexists _; iexact S1
    · iexact R
  · refine ⟨?_, ?_, ?_, ?_, ?_, ?_⟩
    · obtain ⟨X, ⟨Y, _, hL⟩, hE⟩ := RDat.ArrAt.emb_eq_of_wholeAt ((h.1 c).1 (3 : Fin 4)) (whole3 m)
      have hL : X = outV m hX c := hL rfl
      refine Eq.trans ?_ hL
      funext j
      have e := hE j
      refine Eq.trans ?_ (e.trans ?_)
      · rfl
      · rfl
    · exact ((h.1 c).2 main_arg0 (Pipeline.mem_restRefs_of (win := spec0) main_arg0 (by decide) (by decide))).trans (V_of_arg m c (by decide))
    · exact (h.1.arr_in c (0 : Fin 4) rfl).trans (V_of_arg m c (r := main_arg1) (by decide))
    · exact ((h.1 c).2 main_arg2 (Pipeline.mem_restRefs_of (win := spec0) main_arg2 (by decide) (by decide))).trans (V_of_arg m c (by decide))
    · exact ((h.1 c).2 main_arg3 (Pipeline.mem_restRefs_of (win := spec0) main_arg3 (by decide) (by decide))).trans (V_of_arg m c (by decide))
    · exact ((h.1 c).2 main_arg4 (Pipeline.mem_restRefs_of (win := spec0) main_arg4 (by decide) (by decide))).trans (V_of_arg m c (by decide))

end Cert.Hand.KI

end
-- ==== Proof.HostVal.lean ====
/-
  What the host operations before the kernel call leave in the buffers the kernel reads.
-/
module

public import proofs.«01_k».proof.Proof.LaunchKI
public import proofs.«01_k».proof.Proof.Rows
public import Idealize.ShloMosaic.Lib.Pipeline.Value
public import Idealize.ShloMosaic.Lib.KernelVsHost

@[expose] public section

set_option maxRecDepth 16384

noncomputable section

namespace Cert.Hand.KI

open Cert.KernelIdeal Cert.KernelIdeal.Gen
open Idealize.ShloMosaic Idealize.ShloMosaic.TcCoe

/-- The zeros, by group and column: the low nibbles of the packed rows, then the high nibbles. -/
def zeros {F : FTy → Type} [FloatOps F] (z : S64x7168.Idx → Elt F .i8) : S128x7168.Idx → Elt F .bf16 :=
  (uitofp .bf16 (concatenate S128x7168 0 [⟨S64x7168, (andi (extui 32 z natLt_8_32) (broadcastInDim S64x7168 ![] bcast_S_S64x7168 (constantI S_ 32 15#32)) : IVec S64x7168 32)⟩,
    ⟨S64x7168, (Host.shrui (extui 32 z natLt_8_32) (broadcastInDim S64x7168 ![] bcast_S_S64x7168 (constantI S_ 32 4#32)) : IVec S64x7168 32)⟩] concatenates_S64x7168_S64x7168_S128x7168_d0 : IVec S128x7168 32) : FVec F S128x7168 .bf16)

/-- One half of the table: seven column blocks to a group of eight rows, the eighth padded. -/
def slab {F : FTy → Type} [FloatOps F] (s : S128x7168.Idx → Elt F .bf16) : S128x64x128.Idx → Elt F .bf16 :=
  shapeCast S128x64x128 (pad S128x8x8x128 ![0, 0, 0, 0] ![0, 0, 1, 0] ![0, 0, 0, 0] (shapeCast S128x8x7x128 s shapeCasts_S128x7168_S128x8x7x128)
    (sitofp .bf16 (constantI S_ 32 0#32) : FVec F S_ .bf16) pads_S128x8x7x128_S128x8x8x128_000_000_010_000 h_S_) shapeCasts_S128x8x8x128_S128x64x128

/-- The table: the scales' half, then the zeros'. -/
def table {F : FTy → Type} [FloatOps F] (s z : S128x7168.Idx → Elt F .bf16) : S128x128x128.Idx → Elt F .bf16 :=
  concatenate S128x128x128 1 [⟨S128x64x128, slab (F := F) s⟩, ⟨S128x64x128, slab (F := F) z⟩] concatenates_S128x64x128_S128x64x128_S128x128x128_d1

section
variable {F : FTy → Type} [FloatOps F] (m : (ℓ : Loc nD τ sig) → Buf (Elt F) ℓ)

theorem V_x (c : Dev nD) : V m c main_v15 = shapeCast S8x16384 (m ((c.tc : Thread nD τ).loc main_arg0) : S8x1x16384.Idx → Elt F .bf16) shapeCasts_S8x1x16384_S8x16384 := by
  unfold V host
  simp only [List.flatten, List.append, List.cons_append, List.nil_append]
  after_results_simp <;> rfl

theorem V_t (c : Dev nD) : V m c main_v14 = table (F := F) (m ((c.tc : Thread nD τ).loc main_arg2)) (zeros (m ((c.tc : Thread nD τ).loc main_arg3))) := by
  unfold V host
  simp only [List.flatten, List.append, List.cons_append, List.nil_append]
  after_results_simp <;> rfl
end

theorem x_apply {A : Type} (x : S8x1x16384.Idx → A) (b : Fin 8) (K : Fin 16384) :
    shapeCast S8x16384 x shapeCasts_S8x1x16384_S8x16384 (ix2 b K) = x (ix3 b 0 K) := by
  pointwise

theorem split_apply {A : Type} (s : S128x7168.Idx → A) (g : Fin 128) (k : Fin 8) (j : Fin 7) (l : Fin 128) (n : Fin 7168) (hn : n.val = 128 * (7 * k.val + j.val) + l.val)
    (y : S128x8x7x128.Idx) (h0 : (y 0).val = g.val) (h1 : (y 1).val = k.val) (h2 : (y 2).val = j.val) (h3 : (y 3).val = l.val) :
    shapeCast S128x8x7x128 s shapeCasts_S128x7168_S128x8x7x128 y = s (ix2 g n) := by
  refine shapeCast_apply _ _ _ _ ?_
  rw [Shape.rowMajor_val_two, Shape.rowMajor_val_four, h0, h1, h2, h3]
  show g.val * 7168 + n.val = ((g.val * 8 + k.val) * 7 + j.val) * 128 + l.val
  rw [hn]
  omega

theorem join_apply {A : Type} (s : S128x8x8x128.Idx → A) (g : Fin 128) (p : Fin 64) (l : Fin 128) (y : S128x8x8x128.Idx)
    (h0 : (y 0).val = g.val) (h1 : (y 1).val = p.val / 8) (h2 : (y 2).val = p.val % 8) (h3 : (y 3).val = l.val) :
    shapeCast S128x64x128 s shapeCasts_S128x8x8x128_S128x64x128 (ix3 g p l) = s y := by
  refine shapeCast_apply _ _ _ _ ?_
  rw [Shape.rowMajor_val_three, Shape.rowMajor_val_four, h0, h1, h2, h3]
  show ((g.val * 8 + p.val / 8) * 8 + p.val % 8) * 128 + l.val = (g.val * 64 + p.val) * 128 + l.val
  omega

/-- The half at the row of column block `c`. -/
theorem slab_apply (s : S128x7168.Idx → Elt Ideal .bf16) (g : Fin 128) (p : Fin 64) (l : Fin 128) (n : Fin 7168) (hp : p.val % 8 < 7)
    (hn : n.val = 128 * (7 * (p.val / 8) + p.val % 8) + l.val) : slab (F := Ideal) s (ix3 g p l) = s (ix2 g n) := by
  have hpl := p.isLt
  let y : S128x8x8x128.Idx := fun a => match a with
    | ⟨0, _⟩ => g
    | ⟨1, _⟩ => ⟨p.val / 8, by show _ < 8; omega⟩
    | ⟨2, _⟩ => ⟨p.val % 8, by show _ < 8; omega⟩
    | ⟨3, _⟩ => l
  let z : S128x8x7x128.Idx := fun a => match a with
    | ⟨0, _⟩ => g
    | ⟨1, _⟩ => ⟨p.val / 8, by show _ < 8; omega⟩
    | ⟨2, _⟩ => ⟨p.val % 8, hp⟩
    | ⟨3, _⟩ => l
  unfold slab
  rw [join_apply _ g p l y rfl rfl rfl rfl]
  rw [pad_apply_of_inside _ _ _ _ _ _ _ y z (fun a => match a with
    | ⟨0, _⟩ => by show g.val = 0 + g.val * (0 + 1); omega
    | ⟨1, _⟩ => by show p.val / 8 = 0 + p.val / 8 * (0 + 1); omega
    | ⟨2, _⟩ => by show p.val % 8 = 0 + p.val % 8 * (0 + 1); omega
    | ⟨3, _⟩ => by show l.val = 0 + l.val * (0 + 1); omega)]
  exact split_apply s g ⟨p.val / 8, by omega⟩ ⟨p.val % 8, hp⟩ l n hn z rfl rfl rfl rfl

theorem table_lo (s z : S128x7168.Idx → Elt Ideal .bf16) (g : Fin 128) (p : Fin 64) (l : Fin 128) (n : Fin 7168) (hp : p.val % 8 < 7)
    (hn : n.val = 128 * (7 * (p.val / 8) + p.val % 8) + l.val) (q : Fin 128) (hq : q.val = p.val) : table (F := Ideal) s z (ix3 g q l) = s (ix2 g n) := by
  unfold table
  refine Eq.trans (concatenate_pair_apply_left (t := S128x128x128) (s₁ := S128x64x128) (s₂ := S128x64x128) 1 (slab (F := Ideal) s) (slab (F := Ideal) z) concatenates_S128x64x128_S128x64x128_S128x128x128_d1 (ix3 g q l) rfl (ix3 g p l) (fun b => match b with
    | ⟨0, _⟩ => rfl
    | ⟨1, _⟩ => hq.symm
    | ⟨2, _⟩ => rfl)) ?_
  exact slab_apply s g p l n hp hn

theorem table_hi (s z : S128x7168.Idx → Elt Ideal .bf16) (g : Fin 128) (p : Fin 64) (l : Fin 128) (n : Fin 7168) (hp : p.val % 8 < 7)
    (hn : n.val = 128 * (7 * (p.val / 8) + p.val % 8) + l.val) (q : Fin 128) (hq : q.val = 64 + p.val) : table (F := Ideal) s z (ix3 g q l) = z (ix2 g n) := by
  unfold table
  refine Eq.trans (concatenate_pair_apply_right (t := S128x128x128) (s₁ := S128x64x128) (s₂ := S128x64x128) 1 (slab (F := Ideal) s) (slab (F := Ideal) z) concatenates_S128x64x128_S128x64x128_S128x128x128_d1 (ix3 g q l) rfl rfl (ix3 g p l) (fun b => match b with
    | ⟨0, _⟩ => fun _ => rfl
    | ⟨1, _⟩ => fun h => absurd rfl h
    | ⟨2, _⟩ => fun _ => rfl) (by show p.val + 64 = q.val; omega)) ?_
  exact slab_apply z g p l n hp hn

end Cert.Hand.KI

end
-- ==== Proof.RefVal.lean ====
/-
  The reference's result, element by element: the sum of the same terms the kernel adds up.
-/
module

public import proofs.«01_k».proof.Proof.Gen.ReferenceIdeal.Run
public import proofs.«01_k».proof.Proof.HostVal
public import proofs.«01_k».proof.Proof.BodyVal
public import Idealize.ShloMosaic.Lib.Routing.Ops

@[expose] public section

set_option maxRecDepth 16384

noncomputable section

namespace Cert.Hand.RI

open Cert.ReferenceIdeal Cert.ReferenceIdeal.Gen
open Idealize.ShloMosaic Idealize.ShloMosaic.TcCoe

/-- The group words as the reference looks them up: a word below zero counted from the end. -/
def look (g : IVec S8192 32) : IVec S8192x1 32 :=
  broadcastInDim S8192x1 ![0] bcast_S8192_S8192x1_0 (select (cmpi .slt g (broadcastInDim S8192 ![] bcast_S_S8192 (constantI S_ 32 0#32)))
    (addi g (broadcastInDim S8192 ![] bcast_S_S8192 (constantI S_ 32 128#32))) g)

/-- The rows of a table that the group words name. -/
def rowsOf (t : S128x7168.Idx → EReal) (g : IVec S8192 32) : S8192x7168.Idx → EReal :=
  Host.gather gather_S128x7168_S8192x1_S8192x7168_1_0_n_n_0_1_17168 t (look g)

/-- One half of the product: the codes less their zeros, times their scales, against the activations. -/
def half (x : FVec Ideal S8x1x8192 .bf16) (q : IVec S8192x7168 32) (z s : S128x7168.Idx → EReal) (g : IVec S8192 32) : FVec Ideal S8x1x7168 .f32 :=
  Host.dotGeneral dot_S8x1x8192_S8192x7168_S8x1x7168_2_0_01_1_n_n none x
    (mulf (subf (uitofp .bf16 q : FVec Ideal S8192x7168 .bf16) (rowsOf z g : FVec Ideal S8192x7168 .bf16)) (rowsOf s g : FVec Ideal S8192x7168 .bf16) : FVec Ideal S8192x7168 .bf16)

theorem word_ofNat (v : BitVec 32) : v = BitVec.ofNat 32 v.toNat := by
  apply BitVec.eq_of_toNat_eq
  rw [BitVec.toNat_ofNat, Nat.mod_eq_of_lt v.isLt]

theorem kept_word (v a : BitVec 32) (h : v.toNat < 128) : Scalar.select (IntOp.cmpi .slt v 0#32) a v = v := by
  have e : IntOp.cmpi .slt v 0#32 = 0#1 := by
    simp only [IntOp.cmpi]
    have : v.slt 0#32 = false := by
      rw [BitVec.slt_eq_decide]
      have hv := v.isLt
      simp only [BitVec.toInt_eq_toNat_cond]
      apply decide_eq_false
      simp
      omega
    rw [this]
    rfl
  rw [e]
  rfl

theorem look_apply (g : IVec S8192 32) (k : Fin 8192) (h : (g (ix1 k)).toNat < 128) : look g (ix2 k 0) = BitVec.ofNat 32 (g (ix1 k)).toNat := by
  rw [← word_ofNat]
  refine Eq.trans ?_ (kept_word (g (ix1 k)) (IntOp.addi (g (ix1 k)) 128#32) h)
  unfold look
  pointwise

theorem rowsOf_apply (t : S128x7168.Idx → EReal) (g : IVec S8192 32) (k : Fin 8192) (n : Fin 7168) (h : (g (ix1 k)).toNat < 128) :
    rowsOf t g (ix2 k n) = t (ix2 ⟨(g (ix1 k)).toNat, h⟩ n) := by
  unfold rowsOf
  exact Routing.gather_row (nb := 128) (B := 7168) (n := 8192) gather_S128x7168_S8192x1_S8192x7168_1_0_n_n_0_1_17168 rfl rfl rfl rfl rfl t (look g) k n ⟨(g (ix1 k)).toNat, h⟩
    (look_apply g k h) (by decide)

theorem dot_apply (x : FVec Ideal S8x1x8192 .bf16) (w : FVec Ideal S8192x7168 .bf16) (b : Fin 8) (n : Fin 7168) :
    Host.dotGeneral dot_S8x1x8192_S8192x7168_S8x1x7168_2_0_01_1_n_n none x w (ix3 b 0 n) = ∑ k : Fin 8192, x (ix3 b 0 k) * w (ix2 k n) := by
  pointwise

theorem half_apply (x : FVec Ideal S8x1x8192 .bf16) (q : IVec S8192x7168 32) (z s : S128x7168.Idx → EReal) (g : IVec S8192 32)
    (h : ∀ k, (g k).toNat < 128) (b : Fin 8) (n : Fin 7168) :
    half x q z s g (ix3 b 0 n) = ∑ k : Fin 8192, x (ix3 b 0 k) * (((((q (ix2 k n)).toNat : ℝ) : EReal) - z (ix2 ⟨(g (ix1 k)).toNat, h _⟩ n)) * s (ix2 ⟨(g (ix1 k)).toNat, h _⟩ n)) := by
  unfold half
  rw [dot_apply]
  refine Finset.sum_congr rfl fun k _ => ?_
  show _ * ((_ - rowsOf z g (ix2 k n)) * rowsOf s g (ix2 k n)) = _
  rw [rowsOf_apply z g k n (h _), rowsOf_apply s g k n (h _)]
  rfl

/-- The reference's result as a whole. -/
def result (a0 : S8x1x16384.Idx → EReal) (a1 : S8192x7168.Idx → BitVec 8) (s z : S128x7168.Idx → EReal) (a4 : S16384.Idx → BitVec 32) : S8x7168.Idx → EReal :=
  shapeCast S8x7168 (truncf .bf16 (addf
    (half (Host.slice S8x1x8192 ![0, 0, 0] ![1, 1, 2] a0 slicesBy_S8x1x16384_S8x1x8192_0s1_0s1_0s2)
      (andi (extui 32 a1 natLt_8_32) (broadcastInDim S8192x7168 ![] bcast_S_S8192x7168 (constantI S_ 32 15#32))) z s
      (Host.slice S8192 ![0] ![2] a4 slicesBy_S16384_S8192_0s2))
    (half (Host.slice S8x1x8192 ![0, 0, 1] ![1, 1, 2] a0 slicesBy_S8x1x16384_S8x1x8192_0s1_0s1_1s2)
      (Host.shrui (extui 32 a1 natLt_8_32) (broadcastInDim S8192x7168 ![] bcast_S_S8192x7168 (constantI S_ 32 4#32))) z s
      (Host.slice S8192 ![1] ![2] a4 slicesBy_S16384_S8192_1s2))) bitsLt_bf16_f32 : FVec Ideal S8x1x7168 .bf16) shapeCasts_S8x1x7168_S8x7168

theorem low_nibble (v : BitVec 8) : (IntOp.andi (BitVec.zeroExtend 32 v) 15#32).toNat = v.toNat % 16 := by
  revert v; decide +kernel

theorem high_nibble (v : BitVec 8) : (BitVec.zeroExtend 32 v >>> (4 : ℕ)).toNat = v.toNat / 16 % 16 := by
  revert v; decide +kernel

/-- A sum over twice as many terms, the even ones and the odd ones. -/
theorem sum_even_odd (f : ℕ → EReal) (n : ℕ) :
    ∑ K ∈ Finset.range (2 * n), f K = ∑ k ∈ Finset.range n, f (2 * k) + ∑ k ∈ Finset.range n, f (2 * k + 1) := by
  induction n with
  | zero => simp
  | succ n ih =>
    rw [show 2 * (n + 1) = 2 * n + 1 + 1 by ring, Finset.sum_range_succ, Finset.sum_range_succ, ih, Finset.sum_range_succ, Finset.sum_range_succ]
    abel

theorem even_x (a0 : S8x1x16384.Idx → EReal) (b : Fin 8) (k : Fin 8192) :
    Host.slice S8x1x8192 ![0, 0, 0] ![1, 1, 2] a0 slicesBy_S8x1x16384_S8x1x8192_0s1_0s1_0s2 (ix3 b 0 k) = a0 (ix3 b 0 ⟨2 * k.val, by omega⟩) := by
  show a0 _ = a0 _
  congr 1
  funext a
  match a with
  | ⟨0, _⟩ => exact Fin.ext (by show 0 + 1 * b.val = b.val; omega)
  | ⟨1, _⟩ => exact Fin.ext rfl
  | ⟨2, _⟩ => exact Fin.ext (by show 0 + 2 * k.val = 2 * k.val; omega)

theorem odd_x (a0 : S8x1x16384.Idx → EReal) (b : Fin 8) (k : Fin 8192) :
    Host.slice S8x1x8192 ![0, 0, 1] ![1, 1, 2] a0 slicesBy_S8x1x16384_S8x1x8192_0s1_0s1_1s2 (ix3 b 0 k) = a0 (ix3 b 0 ⟨2 * k.val + 1, by omega⟩) := by
  show a0 _ = a0 _
  congr 1
  funext a
  match a with
  | ⟨0, _⟩ => exact Fin.ext (by show 0 + 1 * b.val = b.val; omega)
  | ⟨1, _⟩ => exact Fin.ext rfl
  | ⟨2, _⟩ => exact Fin.ext (by show 1 + 2 * k.val = 2 * k.val + 1; omega)

theorem even_g (a4 : S16384.Idx → BitVec 32) (k : Fin 8192) :
    Host.slice S8192 ![0] ![2] a4 slicesBy_S16384_S8192_0s2 (ix1 k) = a4 (ix1 ⟨2 * k.val, by omega⟩) := by
  show a4 _ = a4 _
  congr 1
  funext a
  match a with
  | ⟨0, _⟩ => exact Fin.ext (by show 0 + 2 * k.val = 2 * k.val; omega)

theorem odd_g (a4 : S16384.Idx → BitVec 32) (k : Fin 8192) :
    Host.slice S8192 ![1] ![2] a4 slicesBy_S16384_S8192_1s2 (ix1 k) = a4 (ix1 ⟨2 * k.val + 1, by omega⟩) := by
  show a4 _ = a4 _
  congr 1
  funext a
  match a with
  | ⟨0, _⟩ => exact Fin.ext (by show 1 + 2 * k.val = 2 * k.val + 1; omega)

open Cert.Hand.KI (term prow table table_lo table_hi x_apply outAll)

/-- One of the kernel's terms, read in the arguments. -/
theorem term_apply (a0 : S8x1x16384.Idx → EReal) (a1 : S8192x7168.Idx → BitVec 8) (s z : S128x7168.Idx → EReal) (a4 : S16384.Idx → BitVec 32)
    (hG : ∀ x, (a4 x).toNat < 128) (c : Fin 56) (b : Fin 8) (l : Fin 128) (n : Fin 7168) (hn : n.val = 128 * c.val + l.val) (K : Fin 16384) :
    term a4 a1 (shapeCast Cert.KernelIdeal.S8x16384 a0 Cert.KernelIdeal.Gen.shapeCasts_S8x1x16384_S8x16384) (table (F := Ideal) s z) hG c b l K.val
      = a0 (ix3 b 0 K) * ((((((a1 (ix2 ⟨K.val / 2, by omega⟩ n)).toNat / 16 ^ (K.val % 2) % 16 : ℕ) : ℝ) : EReal)
        - z (ix2 ⟨(a4 (ix1 K)).toNat, hG _⟩ n)) * s (ix2 ⟨(a4 (ix1 K)).toNat, hG _⟩ n)) := by
  unfold term
  rw [dif_pos K.isLt]
  have hc := c.isLt
  have hl := l.isLt
  have hp : (prow c).val = 8 * (c.val / 7) + c.val % 7 := rfl
  have h7 : (prow c).val % 8 < 7 := by omega
  have hm : n.val = 128 * (7 * ((prow c).val / 8) + (prow c).val % 8) + l.val := by omega
  have en : (⟨128 * c.val + l.val, by omega⟩ : Fin 7168) = n := Fin.ext hn.symm
  rw [table_hi s z _ (prow c) l n h7 hm ⟨64 + (prow c).val, by omega⟩ rfl, table_lo s z _ (prow c) l n h7 hm ⟨(prow c).val, by omega⟩ rfl, x_apply, en]

theorem result_eq (a0 : S8x1x16384.Idx → EReal) (a1 : S8192x7168.Idx → BitVec 8) (s z : S128x7168.Idx → EReal) (a4 : S16384.Idx → BitVec 32)
    (hG : ∀ x, (a4 x).toNat < 128) :
    result a0 a1 s z a4 = outAll a4 a1 (shapeCast Cert.KernelIdeal.S8x16384 a0 Cert.KernelIdeal.Gen.shapeCasts_S8x1x16384_S8x16384) (table (F := Ideal) s z) hG := by
  funext y
  obtain ⟨b, n, rfl⟩ : ∃ (b : Fin 8) (n : Fin 7168), y = ix2 b n := ⟨y 0, y 1, eq_ix2 y⟩
  have hn := n.isLt
  refine Eq.trans (b := ∑ k ∈ Finset.range 8192, term a4 a1 _ _ hG ⟨n.val / 128, by omega⟩ b ⟨n.val % 128, by omega⟩ (2 * k)
    + ∑ k ∈ Finset.range 8192, term a4 a1 _ _ hG ⟨n.val / 128, by omega⟩ b ⟨n.val % 128, by omega⟩ (2 * k + 1)) ?_ (sum_even_odd _ 8192).symm
  rw [Finset.sum_range, Finset.sum_range]
  unfold result
  refine Eq.trans (shapeCast_apply _ _ _ (ix3 b (0 : Fin 1) n) (by
    rw [Shape.rowMajor_val_two, Shape.rowMajor_val_three]
    show (b.val * 1 + 0) * 7168 + n.val = b.val * 7168 + n.val
    omega)) ?_
  show half _ _ z s _ (ix3 b 0 n) + half _ _ z s _ (ix3 b 0 n) = _
  rw [half_apply _ _ z s _ (fun k => by obtain ⟨k, rfl⟩ : ∃ k' : Fin 8192, k = ix1 k' := ⟨k 0, eq_ix1 k⟩; rw [even_g]; exact hG _) b n,
    half_apply _ _ z s _ (fun k => by obtain ⟨k, rfl⟩ : ∃ k' : Fin 8192, k = ix1 k' := ⟨k 0, eq_ix1 k⟩; rw [odd_g]; exact hG _) b n]
  congr 1
  · refine Finset.sum_congr rfl fun k _ => ?_
    have hk := k.isLt
    rw [term_apply a0 a1 s z a4 hG _ b _ n (by show n.val = 128 * (n.val / 128) + n.val % 128; omega) ⟨2 * k.val, by omega⟩]
    have e2 : (⟨2 * k.val / 2, by omega⟩ : Fin 8192) = k := Fin.ext (by show 2 * k.val / 2 = k.val; omega)
    have em : 2 * k.val % 2 = 0 := by omega
    simp only [even_x, even_g, e2, em, pow_zero, Nat.div_one]
    rw [← low_nibble]
    rfl
  · refine Finset.sum_congr rfl fun k _ => ?_
    have hk := k.isLt
    rw [term_apply a0 a1 s z a4 hG _ b _ n (by show n.val = 128 * (n.val / 128) + n.val % 128; omega) ⟨2 * k.val + 1, by omega⟩]
    have e2 : (⟨(2 * k.val + 1) / 2, by omega⟩ : Fin 8192) = k := Fin.ext (by show (2 * k.val + 1) / 2 = k.val; omega)
    have em : (2 * k.val + 1) % 2 = 1 := by omega
    simp only [odd_x, odd_g, e2, em, pow_one]
    rw [← high_nibble]
    rfl

end Cert.Hand.RI

end
-- ==== Proof.lean ====
/-
  The kernel, its idealized form and the reference each run to their end with their arguments unchanged; the idealized
  form is the kernel's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_groups_in_range
public import proofs.«01_k».proof.Proof.Gen.ReferenceIdeal.Run
public import proofs.«01_k».proof.Proof.LaunchK
public import proofs.«01_k».proof.Proof.LaunchKI
public import proofs.«01_k».proof.Proof.LaunchV
public import proofs.«01_k».proof.Proof.RefVal
public import Idealize.ShloMosaic.Lib.StableHlo.Predicate
public import Idealize.ShloMosaic.Lib.StableHlo.RunHlo
public import Idealize.ShloMosaic.Lib.Claim
public import Idealize.ShloMosaic.Lib.Bf16Pair
public import Idealize.ShloMosaic.Adequacy
public import Idealize.ShloMosaic.Init

@[expose] public section

noncomputable section

namespace Cert.Proof

open Idealize.ShloMosaic Idealize.ShloMosaic.TcCoe Idealize.SL.Sem

/-- A word that is not negative and, read with its sign, below 128 is below 128. -/
theorem small_of_range (v : BitVec 32) (h : IntOp.andi (IntOp.cmpi .sge v 0#32) (IntOp.cmpi .slt v 128#32) = 1#1) : v.toNat < 128 := by
  simp only [IntOp.andi, IntOp.cmpi] at h
  have h2 : (0#32).sle v = true ∧ v.slt 128#32 = true := by
    revert h; cases (0#32).sle v <;> cases v.slt 128#32 <;> decide
  obtain ⟨ha, hb⟩ := h2
  rw [BitVec.sle_iff_toInt_le] at ha
  rw [BitVec.slt_iff_toInt_lt] at hb
  have hv := v.isLt
  simp [BitVec.toInt_eq_toNat_cond] at ha hb
  split at ha <;> omega

/-- The reference runs to its end, its arguments as they were. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  hlo_run

/-- What the kernel leaves, read in the arguments, is the reference's result. -/
theorem value_eq (m : (ℓ : Loc Cert.KernelIdeal.nD Cert.KernelIdeal.τ Cert.KernelIdeal.sig) → Buf (Elt Ideal) ℓ)
    (hX : ∀ x, (Cert.Hand.KI.V m 0 Cert.KernelIdeal.main_arg4 x : BitVec 32).toNat < 128) (c : Dev Cert.KernelIdeal.nD) :
    Cert.Hand.RI.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (Cert.Hand.KI.zeros (F := Ideal) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) = Cert.Hand.KI.outV m hX c := by
  obtain rfl : c = 0 := Subsingleton.elim c 0
  have e4 := Cert.Hand.KI.V_of_arg m 0 (r := Cert.KernelIdeal.main_arg4) (by decide)
  have e1 := Cert.Hand.KI.V_of_arg m 0 (r := Cert.KernelIdeal.main_arg1) (by decide)
  have hG : ∀ x, (m (((0 : Dev Cert.KernelIdeal.nD).tc : Thread Cert.KernelIdeal.nD Cert.KernelIdeal.τ).loc Cert.KernelIdeal.main_arg4) x : BitVec 32).toNat < 128 :=
    fun x => by rw [← e4]; exact hX x
  refine (Cert.Hand.RI.result_eq _ _ _ _ _ hG).trans ?_
  unfold Cert.Hand.KI.outV
  rw [← Cert.Hand.KI.V_x, ← Cert.Hand.KI.V_t]
  congr 1 <;> first | exact e4.symm | exact e1.symm

theorem claim : Cert.Claim := ⟨Cert.Kernel.Gen.facts, Cert.KernelIdeal.Gen.facts, Cert.ReferenceIdeal.Gen.facts, Cert.Pre_groups_in_range.Gen.facts, by
  refine ⟨?_, ?_, ?_, ?_, ?_, ?_⟩
  · intro m g h
    exact Cert.Hand.K.frame m g fun x => small_of_range _ (congrFun (h 0) x)
  · intro m g h
    exact Cert.Hand.KI.frame m g fun x => small_of_range _ (congrFun (h 0) x)
  · intro m g h
    exact (θ_run _ _ _).mono (fun r hr => ⟨hr, sem_eq_zero_of_no_sems (by decide) r.2⟩) (ref_frame m g)
  · intro m g h
    exact (θ_run _ _ _).mono (fun r hr => ⟨hr, sem_eq_zero_of_no_sems (by decide) r.2⟩) (ref_frame m g)
  · exact ⟨IdealRules.bf16_pair.statement _ _, IdealRules.bf16_pair.selectZeroStatement _⟩
  · intro m g m' g' h hargs
    have hG : ∀ x, (m (((0 : Dev Cert.KernelIdeal.nD).tc : Thread Cert.KernelIdeal.nD Cert.KernelIdeal.τ).loc Cert.KernelIdeal.main_arg4) x : BitVec 32).toNat < 128 :=
      fun x => small_of_range _ (congrFun (h 0) x)
    have e4 := Cert.Hand.KI.V_of_arg m 0 (r := Cert.KernelIdeal.main_arg4) (by decide)
    have hX : ∀ x, (Cert.Hand.KI.V m 0 Cert.KernelIdeal.main_arg4 x : BitVec 32).toNat < 128 := fun x => by rw [e4]; exact hG x
    refine ⟨fun c => Cert.Hand.KI.outV m hX c, Cert.Hand.KI.runV m g hX, ?_⟩
    refine (θ_run _ _ _).mono (fun r hr c => ?_) (Cert.ReferenceIdeal.Value.run m' g')
    refine ⟨(hr c).1.trans ?_, (hr c).2⟩
    obtain ⟨a0, a1, a2, a3, a4⟩ := hargs c
    rw [a0, a1, a2, a3, a4]
    exact value_eq m hX c⟩

end Cert.Proof

end
